-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S_ : Shape := ⟨0, ![]⟩
abbrev S16 : Shape := ⟨1, ![16]⟩
abbrev S1 : Shape := ⟨1, ![1]⟩
abbrev S256x1024 : Shape := ⟨2, ![256, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S16384x1024, .bf16⟩
  | _, _ => ⟨S8192x1024, .bf16⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_9 : BitVec 32 := 2#32
  let v15 : BitVec 32 := Scalar.muli v6 c2_i32_9
  let v16 : BitVec 32 := Scalar.addi c0_i32 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v17 : BitVec 32 := Scalar.muli v5 c1_i32_10
  let v18 : BitVec 32 := Scalar.addi v16 v17
  v18.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v19 : BitVec 32 := Scalar.muli v2 c2_i32_12
  let v20 : BitVec 32 := Scalar.addi c0_i32_13 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_14 : BitVec 32 := 1#32
  let v21 : BitVec 32 := Scalar.muli v7 c1_i32_14
  let v22 : BitVec 32 := Scalar.addi v20 v21
  v22.toNat
def k0_off1 (d0 : Dev nD) (c0_i32_16 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v11 : BitVec 32 := Scalar.muli v5 c4096_i32
  let v23 : BitVec 32 := Scalar.addi v11 c0_i32_16
  let v24 : BitVec 32 := Scalar.addi v8 v23
  let c0_i32_22 : BitVec 32 := 0#32
  ![v24.toNat, 0]
def k0_off2 (d0 : Dev nD) (c0_i32_16 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v11 : BitVec 32 := Scalar.muli v5 c4096_i32
  let v23 : BitVec 32 := Scalar.addi v11 c0_i32_16
  let c0_i32_23 : BitVec 32 := 0#32
  ![v23.toNat, 0]
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v25 : BitVec 32 := Scalar.muli v6 c2_i32_19
  let v26 : BitVec 32 := Scalar.addi c0_i32_20 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v27 : BitVec 32 := Scalar.muli v5 c1_i32_21
  let v28 : BitVec 32 := Scalar.addi v26 v27
  v28.toNat
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v37 : BitVec 32 := Scalar.muli v6 c2_i32_26
  let v38 : BitVec 32 := Scalar.addi c0_i32_27 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v39 : BitVec 32 := Scalar.muli v5 c1_i32_28
  let v40 : BitVec 32 := Scalar.addi v38 v39
  v40.toNat
def k0_dev5 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v49 : BitVec 32 := Scalar.muli v6 c2_i32_33
  let v50 : BitVec 32 := Scalar.addi c0_i32_34 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v51 : BitVec 32 := Scalar.muli v5 c1_i32_35
  let v52 : BitVec 32 := Scalar.addi v50 v51
  v52.toNat
def k0_dev6 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v61 : BitVec 32 := Scalar.muli v6 c2_i32_39
  let v62 : BitVec 32 := Scalar.addi c0_i32_40 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v63 : BitVec 32 := Scalar.muli v5 c1_i32_41
  let v64 : BitVec 32 := Scalar.addi v62 v63
  v64.toNat
def k0_dev7 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v73 : BitVec 32 := Scalar.muli v6 c2_i32_45
  let v74 : BitVec 32 := Scalar.addi c0_i32_46 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v75 : BitVec 32 := Scalar.muli v5 c1_i32_47
  let v76 : BitVec 32 := Scalar.addi v74 v75
  v76.toNat
def k0_dev8 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v85 : BitVec 32 := Scalar.muli v6 c2_i32_51
  let v86 : BitVec 32 := Scalar.addi c0_i32_52 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v87 : BitVec 32 := Scalar.muli v5 c1_i32_53
  let v88 : BitVec 32 := Scalar.addi v86 v87
  v88.toNat
def k0_dev9 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v97 : BitVec 32 := Scalar.muli v6 c2_i32_57
  let v98 : BitVec 32 := Scalar.addi c0_i32_58 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v99 : BitVec 32 := Scalar.muli v5 c1_i32_59
  let v100 : BitVec 32 := Scalar.addi v98 v99
  v100.toNat
def k0_dev10 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v109 : BitVec 32 := Scalar.muli v6 c2_i32_63
  let v110 : BitVec 32 := Scalar.addi c0_i32_64 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v111 : BitVec 32 := Scalar.muli v5 c1_i32_65
  let v112 : BitVec 32 := Scalar.addi v110 v111
  v112.toNat
def k0_dev11 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v121 : BitVec 32 := Scalar.muli v6 c2_i32_69
  let v122 : BitVec 32 := Scalar.addi c0_i32_70 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v123 : BitVec 32 := Scalar.muli v5 c1_i32_71
  let v124 : BitVec 32 := Scalar.addi v122 v123
  v124.toNat
def k0_dev12 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v133 : BitVec 32 := Scalar.muli v6 c2_i32_75
  let v134 : BitVec 32 := Scalar.addi c0_i32_76 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v135 : BitVec 32 := Scalar.muli v5 c1_i32_77
  let v136 : BitVec 32 := Scalar.addi v134 v135
  v136.toNat
def k0_dev13 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v145 : BitVec 32 := Scalar.muli v6 c2_i32_81
  let v146 : BitVec 32 := Scalar.addi c0_i32_82 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v147 : BitVec 32 := Scalar.muli v5 c1_i32_83
  let v148 : BitVec 32 := Scalar.addi v146 v147
  v148.toNat
def k0_dev14 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v157 : BitVec 32 := Scalar.muli v6 c2_i32_87
  let v158 : BitVec 32 := Scalar.addi c0_i32_88 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v159 : BitVec 32 := Scalar.muli v5 c1_i32_89
  let v160 : BitVec 32 := Scalar.addi v158 v159
  v160.toNat
def k0_dev15 (d0 : Dev nD) : Nat :=
  let c0_i32_94 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_93 : BitVec 32 := 2#32
  let v169 : BitVec 32 := Scalar.muli v6 c2_i32_93
  let v170 : BitVec 32 := Scalar.addi c0_i32_94 v169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v171 : BitVec 32 := Scalar.muli v5 c1_i32_95
  let v172 : BitVec 32 := Scalar.addi v170 v171
  v172.toNat
def k0_dev16 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v181 : BitVec 32 := Scalar.muli v6 c2_i32_99
  let v182 : BitVec 32 := Scalar.addi c0_i32_100 v181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v183 : BitVec 32 := Scalar.muli v5 c1_i32_101
  let v184 : BitVec 32 := Scalar.addi v182 v183
  v184.toNat
def k0_dev17 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v193 : BitVec 32 := Scalar.muli v6 c2_i32_105
  let v194 : BitVec 32 := Scalar.addi c0_i32_106 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v195 : BitVec 32 := Scalar.muli v5 c1_i32_107
  let v196 : BitVec 32 := Scalar.addi v194 v195
  v196.toNat
def k0_dev18 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v205 : BitVec 32 := Scalar.muli v6 c2_i32_111
  let v206 : BitVec 32 := Scalar.addi c0_i32_112 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v207 : BitVec 32 := Scalar.muli v5 c1_i32_113
  let v208 : BitVec 32 := Scalar.addi v206 v207
  v208.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let c0_i32_116 : BitVec 32 := 0#32
  ![v8.toNat, 0]
def k0_off4 (d0 : Dev nD) (c0_i32_117 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v11 : BitVec 32 := Scalar.muli v5 c4096_i32
  let v216 : BitVec 32 := Scalar.addi v10 v11
  let v217 : BitVec 32 := Scalar.addi v216 c0_i32_117
  let c0_i32_123 : BitVec 32 := 0#32
  ![v217.toNat, 0]
def k0_dev19 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v226 : BitVec 32 := Scalar.muli v2 c2_i32_127
  let v227 : BitVec 32 := Scalar.addi c0_i32_128 v226
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_129 : BitVec 32 := 1#32
  let v228 : BitVec 32 := Scalar.muli v7 c1_i32_129
  let v229 : BitVec 32 := Scalar.addi v227 v228
  v229.toNat
def k0_dev20 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v246 : BitVec 32 := Scalar.muli v2 c2_i32_142
  let v247 : BitVec 32 := Scalar.addi c0_i32_143 v246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_144 : BitVec 32 := 1#32
  let v248 : BitVec 32 := Scalar.muli v7 c1_i32_144
  let v249 : BitVec 32 := Scalar.addi v247 v248
  v249.toNat
def k0_dev21 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v266 : BitVec 32 := Scalar.muli v2 c2_i32_157
  let v267 : BitVec 32 := Scalar.addi c0_i32_158 v266
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_159 : BitVec 32 := 1#32
  let v268 : BitVec 32 := Scalar.muli v7 c1_i32_159
  let v269 : BitVec 32 := Scalar.addi v267 v268
  v269.toNat
def k0_dev22 (d0 : Dev nD) : Nat :=
  let c0_i32_173 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_172 : BitVec 32 := 2#32
  let v286 : BitVec 32 := Scalar.muli v2 c2_i32_172
  let v287 : BitVec 32 := Scalar.addi c0_i32_173 v286
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_174 : BitVec 32 := 1#32
  let v288 : BitVec 32 := Scalar.muli v7 c1_i32_174
  let v289 : BitVec 32 := Scalar.addi v287 v288
  v289.toNat
def k0_dev23 (d0 : Dev nD) : Nat :=
  let c0_i32_188 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_187 : BitVec 32 := 2#32
  let v306 : BitVec 32 := Scalar.muli v2 c2_i32_187
  let v307 : BitVec 32 := Scalar.addi c0_i32_188 v306
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_189 : BitVec 32 := 1#32
  let v308 : BitVec 32 := Scalar.muli v7 c1_i32_189
  let v309 : BitVec 32 := Scalar.addi v307 v308
  v309.toNat
def k0_dev24 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v326 : BitVec 32 := Scalar.muli v2 c2_i32_202
  let v327 : BitVec 32 := Scalar.addi c0_i32_203 v326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_204 : BitVec 32 := 1#32
  let v328 : BitVec 32 := Scalar.muli v7 c1_i32_204
  let v329 : BitVec 32 := Scalar.addi v327 v328
  v329.toNat
def k0_dev25 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v346 : BitVec 32 := Scalar.muli v2 c2_i32_217
  let v347 : BitVec 32 := Scalar.addi c0_i32_218 v346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_219 : BitVec 32 := 1#32
  let v348 : BitVec 32 := Scalar.muli v7 c1_i32_219
  let v349 : BitVec 32 := Scalar.addi v347 v348
  v349.toNat
def k0_dev26 (d0 : Dev nD) : Nat :=
  let c0_i32_233 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_232 : BitVec 32 := 2#32
  let v366 : BitVec 32 := Scalar.muli v2 c2_i32_232
  let v367 : BitVec 32 := Scalar.addi c0_i32_233 v366
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_234 : BitVec 32 := 1#32
  let v368 : BitVec 32 := Scalar.muli v7 c1_i32_234
  let v369 : BitVec 32 := Scalar.addi v367 v368
  v369.toNat
def k0_dev27 (d0 : Dev nD) : Nat :=
  let c0_i32_248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_247 : BitVec 32 := 2#32
  let v386 : BitVec 32 := Scalar.muli v2 c2_i32_247
  let v387 : BitVec 32 := Scalar.addi c0_i32_248 v386
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_249 : BitVec 32 := 1#32
  let v388 : BitVec 32 := Scalar.muli v7 c1_i32_249
  let v389 : BitVec 32 := Scalar.addi v387 v388
  v389.toNat
def k0_dev28 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v406 : BitVec 32 := Scalar.muli v2 c2_i32_262
  let v407 : BitVec 32 := Scalar.addi c0_i32_263 v406
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_264 : BitVec 32 := 1#32
  let v408 : BitVec 32 := Scalar.muli v7 c1_i32_264
  let v409 : BitVec 32 := Scalar.addi v407 v408
  v409.toNat
def k0_dev29 (d0 : Dev nD) : Nat :=
  let c0_i32_278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_277 : BitVec 32 := 2#32
  let v426 : BitVec 32 := Scalar.muli v2 c2_i32_277
  let v427 : BitVec 32 := Scalar.addi c0_i32_278 v426
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_279 : BitVec 32 := 1#32
  let v428 : BitVec 32 := Scalar.muli v7 c1_i32_279
  let v429 : BitVec 32 := Scalar.addi v427 v428
  v429.toNat
def k0_dev30 (d0 : Dev nD) : Nat :=
  let c0_i32_293 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_292 : BitVec 32 := 2#32
  let v446 : BitVec 32 := Scalar.muli v2 c2_i32_292
  let v447 : BitVec 32 := Scalar.addi c0_i32_293 v446
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_294 : BitVec 32 := 1#32
  let v448 : BitVec 32 := Scalar.muli v7 c1_i32_294
  let v449 : BitVec 32 := Scalar.addi v447 v448
  v449.toNat
def k0_dev31 (d0 : Dev nD) : Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_307 : BitVec 32 := 2#32
  let v466 : BitVec 32 := Scalar.muli v2 c2_i32_307
  let v467 : BitVec 32 := Scalar.addi c0_i32_308 v466
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_309 : BitVec 32 := 1#32
  let v468 : BitVec 32 := Scalar.muli v7 c1_i32_309
  let v469 : BitVec 32 := Scalar.addi v467 v468
  v469.toNat
def k0_dev32 (d0 : Dev nD) : Nat :=
  let c0_i32_323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_322 : BitVec 32 := 2#32
  let v486 : BitVec 32 := Scalar.muli v2 c2_i32_322
  let v487 : BitVec 32 := Scalar.addi c0_i32_323 v486
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_324 : BitVec 32 := 1#32
  let v488 : BitVec 32 := Scalar.muli v7 c1_i32_324
  let v489 : BitVec 32 := Scalar.addi v487 v488
  v489.toNat
def k0_dev33 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v506 : BitVec 32 := Scalar.muli v2 c2_i32_337
  let v507 : BitVec 32 := Scalar.addi c0_i32_338 v506
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v508 : BitVec 32 := Scalar.muli v7 c1_i32_339
  let v509 : BitVec 32 := Scalar.addi v507 v508
  v509.toNat
def k0_dev34 (d0 : Dev nD) : Nat :=
  let c0_i32_353 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_352 : BitVec 32 := 2#32
  let v526 : BitVec 32 := Scalar.muli v2 c2_i32_352
  let v527 : BitVec 32 := Scalar.addi c0_i32_353 v526
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_354 : BitVec 32 := 1#32
  let v528 : BitVec 32 := Scalar.muli v7 c1_i32_354
  let v529 : BitVec 32 := Scalar.addi v527 v528
  v529.toNat
def k0_off5 (d0 : Dev nD) (c0_i32_357 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c8192_i32_5 : BitVec 32 := 8192#32
  let v10 : BitVec 32 := Scalar.muli v9 c8192_i32_5
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c4096_i32_7 : BitVec 32 := 4096#32
  let v13 : BitVec 32 := Scalar.muli v12 c4096_i32_7
  let v536 : BitVec 32 := Scalar.addi v10 v13
  let v537 : BitVec 32 := Scalar.addi v536 c0_i32_357
  let c0_i32_363 : BitVec 32 := 0#32
  ![v537.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Loop.lean ====
/-
# The kernel as loops over the sixteen chunks

The printed kernel is unrolled: sixteen sends to the neighbour along `x`, one local copy, sixteen pairs of a wait and a
forward to the neighbour along `y`, and the closing waits. Here the same program is written with one loop for each of
those phases, so that a proof treats one chunk, not sixteen.
-/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]

/-- Run `f 0`, `f 1`, …, `f (n - 1)` one after the other. -/
def each {E : Type → Type} : (n : ℕ) → (Fin n → Prog E PUnit) → Prog E PUnit
  | 0, _ => .ret ⟨⟩
  | n + 1, f => f 0 >>= fun _ => each n fun k => f k.succ

/-! ## The memrefs -/

/-- The argument: this device's 8192 rows. -/
abbrev xM : Memref sig .tc .hbm S8192x1024 .bf16 := Memref.whole main_arg0
/-- The result: all 16384 rows. -/
abbrev oM : Memref sig .tc .hbm S16384x1024 .bf16 := Memref.whole main_v1

/-- Chunk `r` of the half of device `d`'s argument that it sends along `x`. -/
abbrev srcM (d : Dev nD) (r : Fin 16) : Memref sig .tc .hbm S256x1024 .bf16 :=
  xM.slice (Rect.unit (s := S8192x1024) (k0_off2 d (BitVec.ofNat 32 (256 * r.val))) S256x1024.size (k0_off2_inb d r)) (fun _ => rfl)
/-- The rows of the result where that chunk lands on the neighbour along `x`. -/
abbrev dstM (d : Dev nD) (r : Fin 16) : Memref sig .tc .hbm S256x1024 .bf16 :=
  oM.slice (Rect.unit (s := S16384x1024) (k0_off1 d (BitVec.ofNat 32 (256 * r.val))) S256x1024.size (k0_off1_inb d r)) (fun _ => rfl)
/-- The rows of the result that device `d` receives along `x` as chunk `r`, and forwards along `y`. -/
abbrev midM (d : Dev nD) (r : Fin 16) : Memref sig .tc .hbm S256x1024 .bf16 :=
  oM.slice (Rect.unit (s := S16384x1024) (k0_off4 d (BitVec.ofNat 32 (256 * r.val))) S256x1024.size (k0_off4_inb d r)) (fun _ => rfl)
/-- The rows of the result that device `d` receives along `y` as chunk `r`. -/
abbrev farM (d : Dev nD) (r : Fin 16) : Memref sig .tc .hbm S256x1024 .bf16 :=
  oM.slice (Rect.unit (s := S16384x1024) (k0_off5 d (BitVec.ofNat 32 (256 * r.val))) S256x1024.size (k0_off5_inb d r)) (fun _ => rfl)
/-- The rows of the result that device `d` copies from its own argument. -/
abbrev ownM (d : Dev nD) : Memref sig .tc .hbm S8192x1024 .bf16 :=
  oM.slice (Rect.unit (s := S16384x1024) (k0_off3 d) S8192x1024.size (k0_off3_inb d)) (fun _ => rfl)

/-! ## The semaphores -/

set_option backward.proofsInPublic true in
theorem inbSem (r : Fin 16) : ∀ a, (![r.val] : Fin 1 → Nat) a + S1.size a ≤ S16.size a := by revert r; decide

/-- Element `r` of an array of sixteen DMA semaphores. -/
def semOf (a : DmaSems sig S16) (r : Fin 16) : DmaSem sig :=
  ((a.slice (Rect.unit (s := S16) ![r.val] S1.size (inbSem r))).squeeze S_ squeezes_S1_S_).sem

/-- The local copy's semaphore. -/
abbrev locS : DmaSem sig := cc0_scratch0.sem
/-- The semaphore of the `r`-th send along `x`, at the sender. -/
abbrev xsS (r : Fin 16) : DmaSem sig := semOf cc0_scratch1 r
/-- The semaphore of the `r`-th arrival along `x`. -/
abbrev xrS (r : Fin 16) : DmaSem sig := semOf cc0_scratch2 r
/-- The semaphore of the `r`-th forward along `y`, at the sender. -/
abbrev ysS (r : Fin 16) : DmaSem sig := semOf cc0_scratch3 r
/-- The semaphore of the `r`-th arrival along `y`. -/
abbrev yrS (r : Fin 16) : DmaSem sig := semOf cc0_scratch4 r
/-- The barrier semaphore. -/
abbrev barS : Sem sig := (SemArray.scalar (sig.barrier 0 rfl) : Sems sig S_).sem

/-! ## The phases -/

/-- Send chunk `r` of the argument to the neighbour along `x`. -/
def xSend (d : Dev nD) (r : Fin 16) : Prog (TpuEff nD τ sig (Elt F) Λ₀ .tc) PUnit :=
  Prog.lift (.enqueueDma (srcM d r) (.remote (Dev.tc (⟨k0_dev3 d, k0_dev3_lt d⟩ : Dev nD)) (dstM d r) (.dma (xsS r))) (.dma (xrS r))
    ((Memref.isWhole_whole _).wordExact_slice rfl _ (k0_off2_wordsbf16 d r)) ((Memref.isWhole_whole _).wordExact_slice rfl _ (k0_off1_wordsbf16 d r))
    ⟨⟨rfl, Or.inl rfl⟩, trivial⟩)
/-- Start the local copy. -/
def ownCopy (d : Dev nD) : Prog (TpuEff nD τ sig (Elt F) Λ₀ .tc) PUnit :=
  Prog.lift (.enqueueDma xM (.here (ownM d)) (.dma locS) (Memref.isWhole_whole _).wordExact
    ((Memref.isWhole_whole _).wordExact_slice rfl _ (k0_off3_wordsbf16 d)) ⟨Or.inl rfl, trivial⟩)
/-- Wait on `q` for one chunk, at the rows the neighbour along `x` fills. -/
def midWait (d : Dev nD) (q : Fin 16 → DmaSem sig) (r : Fin 16) : Prog (TpuEff nD τ sig (Elt F) Λ₀ .tc) PUnit :=
  Prog.lift (.waitDma2 (q r) (midM d r) (midM d r) ((Memref.isWhole_whole _).wordExact_slice rfl _ (k0_off4_wordsbf16 d r))
    ((Memref.isWhole_whole _).wordExact_slice rfl _ (k0_off4_wordsbf16 d r)))
/-- Forward chunk `r` to the neighbour along `y`. -/
def ySend (d : Dev nD) (r : Fin 16) : Prog (TpuEff nD τ sig (Elt F) Λ₀ .tc) PUnit :=
  Prog.lift (.enqueueDma (midM d r) (.remote (Dev.tc (⟨k0_dev19 d, k0_dev19_lt d⟩ : Dev nD)) (midM d r) (.dma (ysS r))) (.dma (yrS r))
    ((Memref.isWhole_whole _).wordExact_slice rfl _ (k0_off4_wordsbf16 d r)) ((Memref.isWhole_whole _).wordExact_slice rfl _ (k0_off4_wordsbf16 d r))
    ⟨⟨rfl, Or.inl rfl⟩, trivial⟩)
/-- Wait for arrival `r` along `y`. -/
def farWait (d : Dev nD) (r : Fin 16) : Prog (TpuEff nD τ sig (Elt F) Λ₀ .tc) PUnit :=
  Prog.lift (.waitDma2 (yrS r) (farM d r) (farM d r) ((Memref.isWhole_whole _).wordExact_slice rfl _ (k0_off5_wordsbf16 d r))
    ((Memref.isWhole_whole _).wordExact_slice rfl _ (k0_off5_wordsbf16 d r)))
/-- Wait for send `r` along `x` to have left. -/
def srcWait (d : Dev nD) (r : Fin 16) : Prog (TpuEff nD τ sig (Elt F) Λ₀ .tc) PUnit :=
  Prog.lift (.waitDma2 (xsS r) (dstM d r) (srcM d r) ((Memref.isWhole_whole _).wordExact_slice rfl _ (k0_off1_wordsbf16 d r))
    ((Memref.isWhole_whole _).wordExact_slice rfl _ (k0_off2_wordsbf16 d r)))
/-- Wait for the local copy. -/
def ownWait (d : Dev nD) : Prog (TpuEff nD τ sig (Elt F) Λ₀ .tc) PUnit :=
  Prog.lift (.waitDma2 locS xM (ownM d) (Memref.isWhole_whole _).wordExact ((Memref.isWhole_whole _).wordExact_slice rfl _ (k0_off3_wordsbf16 d)))

/-- The entry handshake: signal both neighbours, wait for both. -/
def handshake (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

/-- The kernel on device `d`, phase by phase. -/
def devBody (d : Dev nD) : Prog (TpuEff nD τ sig (Elt F) Λ₀ .tc) PUnit := do
  handshake d
  each 16 (xSend d)
  ownCopy d
  each 16 fun r => midWait d xrS r >>= fun _ => ySend d r
  each 16 (farWait d)
  each 16 (srcWait d)
  each 16 (midWait d ysS)
  ownWait d

set_option maxRecDepth 65536 in
set_option maxHeartbeats 4000000 in
/-- The printed kernel is the phases run in order. -/
theorem body_eq_loops :
    cc0_body (F := F) (Memref.whole main_arg0) (Memref.isWhole_whole _) (Memref.whole main_v1) (Memref.isWhole_whole _)
        cc0_scratch0 cc0_scratch1 cc0_scratch2 cc0_scratch3 cc0_scratch4
      = (Prog.lift .deviceId >>= fun d => devBody d) := by
  chain_rfl

end Cert.KernelIdeal.Gather

end
-- ==== Proof.KernelIdeal.Views.lean ====
/-
# The mesh, the rows each copy touches, and what the result holds

Device `2 * x + y` stands at `(x, y)` of the 2 × 2 mesh. `xn` and `yn` are its neighbours along the two axes. The rows of
the result on a device fall into three parts: its own 8192 rows, the 4096 rows that arrive along `x` and the 4096 rows
that arrive along `y`, the last two in sixteen chunks each.
-/
module

public import proofs.«01_k».proof.Proof.KernelIdeal.Loop
public import Idealize.ShloMosaic.Lib.Pipeline.ValueKit.Geometry

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]

/-! ## The neighbours -/

/-- The neighbour along `x`. -/
abbrev xn (c : Dev nD) : Dev nD := ⟨k0_dev1 c, k0_dev1_lt c⟩
/-- The neighbour along `y`. -/
abbrev yn (c : Dev nD) : Dev nD := ⟨k0_dev2 c, k0_dev2_lt c⟩

theorem xn_xn : ∀ c : Dev nD, xn (xn c) = c := by decide +kernel
theorem yn_yn : ∀ c : Dev nD, yn (yn c) = c := by decide +kernel
theorem xn_yn : ∀ c : Dev nD, xn (yn c) = yn (xn c) := by decide +kernel
theorem xn_ne : ∀ c : Dev nD, xn c ≠ c := by decide +kernel
theorem yn_ne : ∀ c : Dev nD, yn c ≠ c := by decide +kernel
theorem xn_ne_yn : ∀ c : Dev nD, xn c ≠ yn c := by decide +kernel

theorem dev3_eq (c : Dev nD) : (⟨k0_dev3 c, k0_dev3_lt c⟩ : Dev nD) = xn c :=
  Fin.ext ((k0_dev3_eq c).trans (k0_dev1_eq c).symm)
theorem dev19_eq (c : Dev nD) : (⟨k0_dev19 c, k0_dev19_lt c⟩ : Dev nD) = yn c :=
  Fin.ext ((k0_dev19_eq c).trans (k0_dev2_eq c).symm)

theorem xn_div : ∀ c : Dev nD, (xn c).val / 2 = 1 - c.val / 2 := by decide +kernel
theorem xn_mod : ∀ c : Dev nD, (xn c).val % 2 = c.val % 2 := by decide +kernel
theorem yn_div : ∀ c : Dev nD, (yn c).val / 2 = c.val / 2 := by decide +kernel
theorem yn_mod : ∀ c : Dev nD, (yn c).val % 2 = 1 - c.val % 2 := by decide +kernel
theorem div_le : ∀ c : Dev nD, c.val / 2 ≤ 1 := by decide +kernel
theorem mod_le : ∀ c : Dev nD, c.val % 2 ≤ 1 := by decide +kernel

/-! ## Where the rows lie -/

/-- Two slices of the result at the same offset are the same memref. -/
theorem oM_slice_congr {s : Fin 2 → ℕ} {o o' : Fin 2 → ℕ} (h : o = o') (i i') :
    (oM.slice (Rect.unit (s := S16384x1024) o s i) (fun _ => rfl)
      : Memref sig .tc .hbm (Rect.unit (s := S16384x1024) o s i).shape .bf16)
      = oM.slice (Rect.unit (s := S16384x1024) o' s i') (fun _ => rfl) := by subst h; rfl

/-- Where a chunk lands on the neighbour along `x` is where that neighbour waits for it. -/
theorem dst_eq_mid (c : Dev nD) (r : Fin 16) : dstM c r = midM (xn c) r :=
  oM_slice_congr (by
    have := div_le c
    rw [k0_off1_eq, k0_off4_eq, xn_div, xn_mod]; congr 1; omega) _ _

/-- A forwarded chunk keeps its rows: the neighbour along `y` waits for it there. -/
theorem mid_eq_far (c : Dev nD) (r : Fin 16) : midM c r = farM (yn c) r :=
  oM_slice_congr (by
    have := div_le c; have := mod_le c
    rw [k0_off4_eq, k0_off5_eq, yn_div, yn_mod]; congr 1; omega) _ _

/-- The first row of the chunks received along `x`. -/
abbrev midLo (c : Dev nD) (r : Fin 16) : ℕ := 8192 * (1 - c.val / 2) + 4096 * (c.val % 2) + 256 * r.val
/-- The first row of the chunks received along `y`. -/
abbrev farLo (c : Dev nD) (r : Fin 16) : ℕ := 8192 * (1 - c.val / 2) + 4096 * (1 - c.val % 2) + 256 * r.val

theorem off4_zero (c : Dev nD) (r : Fin 16) : k0_off4 c (BitVec.ofNat 32 (256 * r.val)) = ![midLo c r, 0] := by
  have := div_le c
  rw [k0_off4_eq]; congr 1; unfold midLo; omega
theorem off5_zero (c : Dev nD) (r : Fin 16) : k0_off5 c (BitVec.ofNat 32 (256 * r.val)) = ![farLo c r, 0] := by
  have := div_le c; have := mod_le c
  rw [k0_off5_eq]; congr 1; unfold farLo; omega

/-- An element lies in whole rows of the result exactly when its row does. -/
theorem mem_rows {o : Fin 2 → ℕ} {n lo : ℕ} (h : o = ![lo, 0]) {inb} (i : S16384x1024.Idx) :
    i ∈ (Rect.unit (s := S16384x1024) o ![n, 1024] inb).set ↔ lo ≤ (i 0).val ∧ (i 0).val < lo + n := by
  subst h
  rw [Rect.mem_set_unit, Fin.forall_fin_two]
  refine ⟨fun h => h.1, fun h => ⟨h, Nat.zero_le _, ?_⟩⟩
  have := (i 1).isLt
  exact Nat.lt_of_lt_of_eq this (Nat.zero_add _).symm
/-- The same for the argument. -/
theorem mem_rows_arg {o : Fin 2 → ℕ} {n lo : ℕ} (h : o = ![lo, 0]) {inb} (i : S8192x1024.Idx) :
    i ∈ (Rect.unit (s := S8192x1024) o ![n, 1024] inb).set ↔ lo ≤ (i 0).val ∧ (i 0).val < lo + n := by
  subst h
  rw [Rect.mem_set_unit, Fin.forall_fin_two]
  refine ⟨fun h => h.1, fun h => ⟨h, Nat.zero_le _, ?_⟩⟩
  have := (i 1).isLt
  exact Nat.lt_of_lt_of_eq this (Nat.zero_add _).symm

theorem mem_mid (c : Dev nD) (r : Fin 16) (i : S16384x1024.Idx) :
    i ∈ (midM c r).view.set ↔ midLo c r ≤ (i 0).val ∧ (i 0).val < midLo c r + 256 :=
  ValueKit.mem_set_slice_whole_iff main_v1 _ i (mem_rows (off4_zero c r) i)
theorem mem_far (c : Dev nD) (r : Fin 16) (i : S16384x1024.Idx) :
    i ∈ (farM c r).view.set ↔ farLo c r ≤ (i 0).val ∧ (i 0).val < farLo c r + 256 :=
  ValueKit.mem_set_slice_whole_iff main_v1 _ i (mem_rows (off5_zero c r) i)
theorem mem_own (c : Dev nD) (i : S16384x1024.Idx) :
    i ∈ (ownM c).view.set ↔ 8192 * (c.val / 2) ≤ (i 0).val ∧ (i 0).val < 8192 * (c.val / 2) + 8192 :=
  ValueKit.mem_set_slice_whole_iff main_v1 _ i (mem_rows (k0_off3_eq c) i)
theorem mem_src (c : Dev nD) (r : Fin 16) (i : S8192x1024.Idx) :
    i ∈ (srcM c r).view.set ↔ 4096 * (c.val % 2) + 256 * r.val ≤ (i 0).val
      ∧ (i 0).val < 4096 * (c.val % 2) + 256 * r.val + 256 :=
  ValueKit.mem_set_slice_whole_iff main_arg0 _ i (mem_rows_arg (k0_off2_eq c r) i)

/-- The parts of the result on device `c`: its own rows, the chunks arriving along `x`, those arriving along `y`. -/
def part (c : Dev nD) : Unit ⊕ (Fin 16 ⊕ Fin 16) → Finset S16384x1024.Idx
  | .inl _ => (ownM c).view.set
  | .inr (.inl r) => (midM c r).view.set
  | .inr (.inr r) => (farM c r).view.set

/-- The first row of a part, -/
def partLo (c : Dev nD) : Unit ⊕ (Fin 16 ⊕ Fin 16) → ℕ
  | .inl _ => 8192 * (c.val / 2)
  | .inr (.inl r) => midLo c r
  | .inr (.inr r) => farLo c r
/-- and how many rows it has. -/
def partN : Unit ⊕ (Fin 16 ⊕ Fin 16) → ℕ
  | .inl _ => 8192
  | .inr _ => 256

theorem mem_part (c : Dev nD) : ∀ b (i : S16384x1024.Idx),
    i ∈ part c b ↔ partLo c b ≤ (i 0).val ∧ (i 0).val < partLo c b + partN b
  | .inl _, i => mem_own c i
  | .inr (.inl r), i => mem_mid c r i
  | .inr (.inr r), i => mem_far c r i

theorem part_apart (c : Dev nD) (b b' : Unit ⊕ (Fin 16 ⊕ Fin 16)) (i : ℕ) (h : partLo c b ≤ i ∧ i < partLo c b + partN b)
    (h' : partLo c b' ≤ i ∧ i < partLo c b' + partN b') : b = b' := by
  have h1 := div_le c; have h2 := mod_le c
  rcases b with _ | r | r <;> rcases b' with _ | r' | r' <;> simp only [partLo, partN, midLo, farLo] at h h'
  · rfl
  · omega
  · omega
  · omega
  · rw [show r = r' from Fin.ext (by omega)]
  · omega
  · omega
  · omega
  · rw [show r = r' from Fin.ext (by omega)]

theorem part_disjoint (c : Dev nD) : ∀ b b', b ≠ b' → Disjoint (part c b) (part c b') := fun b b' hne =>
  Finset.disjoint_left.2 fun i hi hi' => hne (part_apart c b b' _ ((mem_part c b i).1 hi) ((mem_part c b' i).1 hi'))

theorem part_cover (c : Dev nD) : Finset.univ.biUnion (part c) = Finset.univ := by
  ext i
  simp only [Finset.mem_biUnion, Finset.mem_univ, true_and, iff_true]
  have h1 := div_le c; have h2 := mod_le c
  have h3 : (i 0).val < 16384 := (i 0).isLt
  by_cases ho : (i 0).val / 8192 = c.val / 2
  · exact ⟨.inl (), (mem_part c _ i).2 (by simp only [partLo, partN]; omega)⟩
  · have hr : (i 0).val % 4096 / 256 < 16 := by omega
    by_cases hm : (i 0).val % 8192 / 4096 = c.val % 2
    · exact ⟨.inr (.inl ⟨_, hr⟩), (mem_part c _ i).2 (by simp only [partLo, partN, midLo]; omega)⟩
    · exact ⟨.inr (.inr ⟨_, hr⟩), (mem_part c _ i).2 (by simp only [partLo, partN, farLo]; omega)⟩

theorem src_disjoint (c : Dev nD) (r r' : Fin 16) (h : r ≠ r') :
    Disjoint (srcM c r).view.set (srcM c r').view.set := by
  refine Finset.disjoint_left.2 fun (i : S8192x1024.Idx) hi hi' => h (Fin.ext ?_)
  have e := (mem_src c r i).1 hi; have e' := (mem_src c r' i).1 hi'
  omega

/-! ## What the result holds -/

/-- The device whose argument supplies the element `i` of the result on device `c`: `c` itself for its own rows, the
    neighbour along `x` for the rows arriving along `x`, and the device across for the rest. -/
def holder (c : Dev nD) (i : S16384x1024.Idx) : Dev nD :=
  if (i 0).val / 8192 = c.val / 2 then c else if (i 0).val % 8192 / 4096 = c.val % 2 then xn c else xn (yn c)

/-- The element of that argument. -/
def argIdx (i : S16384x1024.Idx) : S8192x1024.Idx
  | 0 => ⟨(i 0).val % 8192, Nat.mod_lt _ (by decide)⟩
  | 1 => ⟨(i 1).val, (i 1).isLt⟩

/-- What the result on device `c` holds in the end, from the launch memory `m`. -/
def outF (m : (ℓ : Loc nD τ sig) → Buf (Elt F) ℓ) (c : Dev nD) : Buf (Elt F) ((c : Thread nD τ).loc main_v1) := fun i =>
  m ((holder c i : Thread nD τ).loc main_arg0) (argIdx i)

/-- The elements of a slice of the result, by row and column. -/
theorem emb_oM {o s : Fin 2 → ℕ} {lo : ℕ} (h : o = ![lo, 0]) {inb}
    (j : (Rect.unit (s := S16384x1024) o s inb).shape.Idx) (a : Fin 2) :
    (((oM.slice (Rect.unit (s := S16384x1024) o s inb) (fun _ => rfl)).view.emb j : S16384x1024.Idx) a).val
      = (![lo, 0] : Fin 2 → ℕ) a + (j a).val := by
  subst h; exact ValueKit.view_emb_slice_whole_unit_val main_v1 _ s inb j a
/-- The elements of a slice of the argument, by row and column. -/
theorem emb_xM {o s : Fin 2 → ℕ} {lo : ℕ} (h : o = ![lo, 0]) {inb}
    (j : (Rect.unit (s := S8192x1024) o s inb).shape.Idx) (a : Fin 2) :
    (((xM.slice (Rect.unit (s := S8192x1024) o s inb) (fun _ => rfl)).view.emb j : S8192x1024.Idx) a).val
      = (![lo, 0] : Fin 2 → ℕ) a + (j a).val := by
  subst h; exact ValueKit.view_emb_slice_whole_unit_val main_arg0 _ s inb j a

/-- On its own rows the result holds the device's argument. -/
theorem outF_own (m : (ℓ : Loc nD τ sig) → Buf (Elt F) ℓ) (c : Dev nD) (j : S8192x1024.Idx) :
    outF m c ((ownM c).view.emb j) = m ((c : Thread nD τ).loc main_arg0) j := by
  have h1 := div_le c
  have j0 : (j 0).val < 8192 := (j 0).isLt
  have e0 : (((ownM c).view.emb j : S16384x1024.Idx) 0).val = 8192 * (c.val / 2) + (j 0).val :=
    emb_oM (k0_off3_eq c) (inb := k0_off3_inb c) j 0
  have e1 : (((ownM c).view.emb j : S16384x1024.Idx) 1).val = 0 + (j 1).val :=
    emb_oM (k0_off3_eq c) (inb := k0_off3_inb c) j 1
  unfold outF holder
  rw [if_pos (by rw [e0]; omega)]
  congr 1
  funext a
  refine Fin.ext ?_
  fin_cases a
  · show (((ownM c).view.emb j : S16384x1024.Idx) 0).val % 8192 = (j 0).val
    rw [e0]; omega
  · show (((ownM c).view.emb j : S16384x1024.Idx) 1).val = (j 1).val
    rw [e1]; omega

/-- Where chunk `r` lands on the neighbour along `x`, the result there holds the sender's argument. -/
theorem outF_dst (m : (ℓ : Loc nD τ sig) → Buf (Elt F) ℓ) (c : Dev nD) (r : Fin 16) (j : S256x1024.Idx) :
    outF m (xn c) ((dstM c r).view.emb j) = m ((c : Thread nD τ).loc main_arg0) ((srcM c r).view.emb j) := by
  have h1 := div_le c; have h2 := mod_le c; have h3 := r.isLt
  have j0 : (j 0).val < 256 := (j 0).isLt
  have e0 : (((dstM c r).view.emb j : S16384x1024.Idx) 0).val
    = 8192 * (c.val / 2) + 4096 * (c.val % 2) + 256 * r.val + (j 0).val :=
    emb_oM (k0_off1_eq c r) (inb := k0_off1_inb c r) j 0
  have e1 : (((dstM c r).view.emb j : S16384x1024.Idx) 1).val = 0 + (j 1).val :=
    emb_oM (k0_off1_eq c r) (inb := k0_off1_inb c r) j 1
  have s0 : (((srcM c r).view.emb j : S8192x1024.Idx) 0).val = 4096 * (c.val % 2) + 256 * r.val + (j 0).val :=
    emb_xM (k0_off2_eq c r) (inb := k0_off2_inb c r) j 0
  have s1 : (((srcM c r).view.emb j : S8192x1024.Idx) 1).val = 0 + (j 1).val :=
    emb_xM (k0_off2_eq c r) (inb := k0_off2_inb c r) j 1
  unfold outF holder
  rw [if_neg (by rw [e0, xn_div]; omega), if_pos (by rw [e0, xn_mod]; omega), xn_xn]
  congr 1
  funext a
  refine Fin.ext ?_
  fin_cases a
  · show (((dstM c r).view.emb j : S16384x1024.Idx) 0).val % 8192 = (((srcM c r).view.emb j : S8192x1024.Idx) 0).val
    rw [e0, s0]; omega
  · show (((dstM c r).view.emb j : S16384x1024.Idx) 1).val = (((srcM c r).view.emb j : S8192x1024.Idx) 1).val
    rw [e1, s1]

/-- The rows forwarded along `y` hold the same elements at both ends. -/
theorem outF_mid (m : (ℓ : Loc nD τ sig) → Buf (Elt F) ℓ) (c : Dev nD) (r : Fin 16) (i : S16384x1024.Idx) (hi : i ∈ (midM c r).view.set) :
    outF m (yn c) i = outF m c i := by
  have h1 := div_le c; have h2 := mod_le c; have h3 := r.isLt
  rw [mem_mid] at hi
  simp only [midLo] at hi
  unfold outF holder
  rw [if_neg (by rw [yn_div]; omega), if_neg (by rw [yn_mod]; omega), if_neg (by omega), if_pos (by omega), yn_yn]

/-! ## The semaphores, by number -/

theorem xsS_val : ∀ r : Fin 16, (xsS r).val = 1 + r.val := by decide +kernel
theorem xrS_val : ∀ r : Fin 16, (xrS r).val = 17 + r.val := by decide +kernel
theorem ysS_val : ∀ r : Fin 16, (ysS r).val = 33 + r.val := by decide +kernel
theorem yrS_val : ∀ r : Fin 16, (yrS r).val = 49 + r.val := by decide +kernel
theorem locS_val : (locS : DmaSem sig).val = 0 := by decide +kernel

end Cert.KernelIdeal.Gather

end
-- ==== Proof.KernelIdeal.Schedule.lean ====
/-
# The protocol

Each device has one barrier cell and sixty-five DMA cells. A barrier cell takes one unit from each neighbour; with its unit
a neighbour hands over the rows of its result that the owner of the cell will fill. A DMA cell is credited once, by the one
copy that names it, and what the copy leaves behind comes with the credit: the local copy the device's own rows, an arrival
along `x` or `y` the arrived rows, a forward the forwarded rows back.
-/
module

public import proofs.«01_k».proof.Proof.KernelIdeal.Views

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The indices of a device's DMA cells: the local copy, the sends along `x`, the arrivals along `x`, the forwards along
    `y`, the arrivals along `y`. -/
abbrev Qix : Type := Unit ⊕ (Fin 16 ⊕ (Fin 16 ⊕ (Fin 16 ⊕ Fin 16)))
/-- Those and the barrier cell. -/
abbrev Cix : Type := Unit ⊕ Qix

def qS : Qix → DmaSem sig
  | .inl _ => locS
  | .inr (.inl r) => xsS r
  | .inr (.inr (.inl r)) => xrS r
  | .inr (.inr (.inr (.inl r))) => ysS r
  | .inr (.inr (.inr (.inr r))) => yrS r

/-- The kernel's own semaphores, as the launch indexes them. -/
def osem (q : Qix) : SemLoc sig := .dma (qS q)
/-- All semaphores of a device. -/
def csem : Cix → SemLoc sig
  | .inl _ => .reg barS
  | .inr q => osem q

abbrev barCell (c : Dev nD) : GSem nD τ sig := ((c : Thread nD τ), .reg barS)
abbrev dmaCell (c : Dev nD) (q : DmaSem sig) : GSem nD τ sig := ((c : Thread nD τ), .dma q)
def kcell (ck : Dev nD × Cix) : GSem nD τ sig := ((ck.1 : Thread nD τ), csem ck.2)

/-- Which of the five groups a DMA semaphore is in, -/
def groupOf (q : DmaSem sig) : ℕ := (q.val + 15) / 16
/-- and which chunk it belongs to. -/
def chunkOf (q : DmaSem sig) : Fin 16 := ⟨(q.val + 15) % 16, Nat.mod_lt _ (by decide)⟩

theorem group_loc : groupOf locS = 0 := by unfold groupOf; rw [locS_val]
theorem group_xs (r : Fin 16) : groupOf (xsS r) = 1 := by unfold groupOf; rw [xsS_val]; omega
theorem group_xr (r : Fin 16) : groupOf (xrS r) = 2 := by unfold groupOf; rw [xrS_val]; omega
theorem group_ys (r : Fin 16) : groupOf (ysS r) = 3 := by unfold groupOf; rw [ysS_val]; omega
theorem group_yr (r : Fin 16) : groupOf (yrS r) = 4 := by unfold groupOf; rw [yrS_val]; omega
theorem chunk_xr (r : Fin 16) : chunkOf (xrS r) = r := by
  refine Fin.ext ?_; show ((xrS r).val + 15) % 16 = r.val; rw [xrS_val]; omega
theorem chunk_ys (r : Fin 16) : chunkOf (ysS r) = r := by
  refine Fin.ext ?_; show ((ysS r).val + 15) % 16 = r.val; rw [ysS_val]; omega
theorem chunk_yr (r : Fin 16) : chunkOf (yrS r) = r := by
  refine Fin.ext ?_; show ((yrS r).val + 15) % 16 = r.val; rw [yrS_val]; omega

theorem qS_val : ∀ q : Qix, (qS q).val = match q with
    | .inl _ => 0 | .inr (.inl r) => 1 + r.val | .inr (.inr (.inl r)) => 17 + r.val
    | .inr (.inr (.inr (.inl r))) => 33 + r.val | .inr (.inr (.inr (.inr r))) => 49 + r.val
  | .inl _ => locS_val
  | .inr (.inl r) => xsS_val r
  | .inr (.inr (.inl r)) => xrS_val r
  | .inr (.inr (.inr (.inl r))) => ysS_val r
  | .inr (.inr (.inr (.inr r))) => yrS_val r

theorem qS_inj : Function.Injective qS := by
  intro q q' h
  have h := congrArg Fin.val h
  rw [qS_val, qS_val] at h
  rcases q with _ | r | r | r | r <;> rcases q' with _ | r' | r' | r' | r' <;> simp only at h <;>
    first
      | rfl
      | (exfalso; omega)
      | rw [show r = r' from Fin.ext (by omega)]

theorem osem_inj : Function.Injective osem := fun q q' h => qS_inj (by injection h)
theorem csem_inj : Function.Injective csem := by
  rintro (_ | q) (_ | q') h
  · rfl
  · cases h
  · cases h
  · rw [osem_inj h]
theorem kcell_inj : Function.Injective kcell := by
  rintro ⟨c, k⟩ ⟨c', k'⟩ h
  have h1 : c = c' := congrArg (fun g : GSem nD τ sig => g.1.1) h
  have h2 : k = k' := csem_inj (congrArg Prod.snd h)
  subst h1; subst h2; rfl

/-! ## Amounts -/

/-- What one chunk credits, -/
@[irreducible] def N : ℕ := (midM (0 : Dev nD) 0).view.dmaCredit
/-- and what the local copy credits. -/
@[irreducible] def NL : ℕ := (ownM (0 : Dev nD)).view.dmaCredit
theorem N_pos : 0 < N := by unfold N; exact View.dmaCredit_pos _ (by decide)
theorem NL_pos : 0 < NL := by unfold NL; exact View.dmaCredit_pos _ (by decide)

theorem credit_mid (c : Dev nD) (r : Fin 16) : (midM c r).view.dmaCredit = N := by unfold N; rfl
theorem credit_dst (c : Dev nD) (r : Fin 16) : (dstM c r).view.dmaCredit = N := by unfold N; rfl
theorem credit_far (c : Dev nD) (r : Fin 16) : (farM c r).view.dmaCredit = N := by unfold N; rfl
theorem credit_src (c : Dev nD) (r : Fin 16) : (srcM c r).view.dmaCredit = N := by unfold N; rfl
theorem credit_own (c : Dev nD) : (ownM c).view.dmaCredit = NL := by unfold NL; rfl

/-! ## Rows of the result and of the argument, owned -/

/-- The elements `I` of the result on device `c`, holding `f`. -/
def oPts (c : Dev nD) (I : Finset S16384x1024.Idx) (f : Buf (Elt F) ((c : Thread nD τ).loc main_v1)) : sProp 𝕄 :=
  (c : Thread nD τ).loc main_v1 ↦[I]{fullShare} f
/-- The elements `I` of the argument of device `c`, at the share `q`, as launched. -/
def aPts (c : Dev nD) (q : PosShare TreeShare) (I : Finset S8192x1024.Idx) : sProp 𝕄 :=
  (c : Thread nD τ).loc main_arg0 ↦[I]{q} m ((c : Thread nD τ).loc main_arg0)

instance oPts_storable (c : Dev nD) (I) (f) : BI.Storable (upEmb : UEmb _ 𝕄) (oPts (F := F) c I f) := by
  unfold oPts; infer_instance
instance aPts_storable (c : Dev nD) (q I) : BI.Storable (upEmb : UEmb _ 𝕄) (aPts (F := F) m c q I) := by
  unfold aPts; infer_instance

/-- Chunk `r` of the rows arriving along `x`, at the launch contents, -/
def mid0 (c : Dev nD) (r : Fin 16) : sProp 𝕄 := oPts c (midM c r).view.set (m ((c : Thread nD τ).loc main_v1))
/-- and once arrived; -/
def mid1 (c : Dev nD) (r : Fin 16) : sProp 𝕄 := oPts c (midM c r).view.set (outF m c)
/-- chunk `r` of the rows arriving along `y`, at the launch contents, -/
def far0 (c : Dev nD) (r : Fin 16) : sProp 𝕄 := oPts c (farM c r).view.set (m ((c : Thread nD τ).loc main_v1))
/-- and once arrived; -/
def far1 (c : Dev nD) (r : Fin 16) : sProp 𝕄 := oPts c (farM c r).view.set (outF m c)
/-- the device's own rows at the launch contents, -/
def own0 (c : Dev nD) : sProp 𝕄 := oPts c (ownM c).view.set (m ((c : Thread nD τ).loc main_v1))
/-- and once copied, with the argument they were copied from. -/
def own1 (c : Dev nD) : sProp 𝕄 := oPts c (ownM c).view.set (outF m c)
/-- The argument at the share the local copy reads it with, -/
def argL (c : Dev nD) : sProp 𝕄 := aPts m c fullShare.left Finset.univ
/-- and one chunk of it at the share the sends read it with. -/
def argR (c : Dev nD) (r : Fin 16) : sProp 𝕄 := aPts m c fullShare.right (srcM c r).view.set

/-! ## The schedule -/

/-- What the unit of `d` hands over at the barrier of device `c`: from the neighbour along `x` (`false`) or along `y`
    (`true`), the rows of that neighbour's result which `c` fills. -/
def barPay (c : Dev nD) (d : Bool) : sProp 𝕄 :=
  if d then bigSep Finset.univ fun r => far0 m (yn c) r else bigSep Finset.univ fun r => mid0 m (xn c) r

/-- What a DMA cell of device `c` hands over. -/
def dmaPay (c : Dev nD) (q : DmaSem sig) : sProp 𝕄 :=
  if groupOf q = 0 then iprop(own1 m c ∗ argL m c)
  else if groupOf q = 1 then iprop(emp)
  else if groupOf q = 4 then far1 m c (chunkOf q)
  else mid1 m c (chunkOf q)

/-- The schedule: one round; a barrier cell with the two duties of one unit each, a DMA cell with one duty of its copy's
    credit. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => if groupOf q = 0 then NL else N
  payload g _ d := match g.2 with | .reg _ => barPay m g.1.1 d | .dma q => dmaPay m g.1.1 q
  amount_pos g _ _ _ := by
    rcases g with ⟨t, q | q⟩
    · exact Nat.one_pos
    · show 0 < if groupOf q = 0 then NL else N
      split
      · exact NL_pos
      · exact N_pos

instance rd_payload_storable (g : GSem nD τ sig) (r : ℕ) (d : Bool) :
    BI.Storable (upEmb : UEmb _ 𝕄) ((rd (F := F) m).payload g r d) := by
  rcases g with ⟨t, q | q⟩
  · show BI.Storable upEmb (barPay m t.1 d)
    unfold barPay far0 mid0
    split <;> infer_instance
  · show BI.Storable upEmb (dmaPay m t.1 q)
    unfold dmaPay own1 argL far1 mid1
    (repeat' split) <;> infer_instance

section Sched
variable (c : Dev nD)

theorem duties_bar : (rd (F := F) m).duties (barCell c) 0 = Finset.univ := by dsimp only [rd]; exact if_pos ⟨rfl, rfl⟩
theorem duties_dma (q : DmaSem sig) : (rd (F := F) m).duties (dmaCell c q) 0 = {false} := by dsimp only [rd]; exact if_pos ⟨rfl, rfl⟩
theorem duties_later (g : GSem nD τ sig) : ∀ r, 1 ≤ r → (rd (F := F) m).duties g r = ∅ :=
  fun r hr => by dsimp only [rd]; rw [if_neg fun h => by omega]

theorem amount_bar (d : Bool) : (rd (F := F) m).amount (barCell c) 0 d = 1 := by dsimp only [rd]
theorem amount_loc (d : Bool) : (rd (F := F) m).amount (dmaCell c locS) 0 d = NL := by dsimp only [rd]; rw [if_pos group_loc]
theorem amount_dma {q : DmaSem sig} (h : groupOf q ≠ 0) (d : Bool) : (rd (F := F) m).amount (dmaCell c q) 0 d = N := by dsimp only [rd]; rw [if_neg h]

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_one (q : DmaSem sig) : (rd (F := F) m).expect (dmaCell c q) 0 = (rd (F := F) m).amount (dmaCell c q) 0 false := by
  unfold Schedule.expect Schedule.amountOf; rw [duties_dma, Finset.sum_singleton]
theorem expect_loc : (rd (F := F) m).expect (dmaCell c locS) 0 = NL := (expect_one m c locS).trans (amount_loc m c false)
theorem expect_dma {q : DmaSem sig} (h : groupOf q ≠ 0) : (rd (F := F) m).expect (dmaCell c q) 0 = N :=
  (expect_one m c q).trans (amount_dma m c h false)

theorem payload_bar (d : Bool) : (rd (F := F) m).payload (barCell c) 0 d = barPay m c d := by dsimp only [rd]
theorem payload_dma (q : DmaSem sig) (d : Bool) : (rd (F := F) m).payload (dmaCell c q) 0 d = dmaPay m c q := by dsimp only [rd]

theorem pay_loc : dmaPay m c locS = iprop(own1 m c ∗ argL m c) := by unfold dmaPay; rw [if_pos group_loc]
theorem pay_xs (r : Fin 16) : dmaPay m c (xsS r) = iprop(emp) := by
  unfold dmaPay; rw [group_xs, if_neg (by decide), if_pos rfl]
theorem pay_xr (r : Fin 16) : dmaPay m c (xrS r) = mid1 m c r := by
  unfold dmaPay; rw [group_xr, if_neg (by decide), if_neg (by decide), if_neg (by decide), chunk_xr]
theorem pay_ys (r : Fin 16) : dmaPay m c (ysS r) = mid1 m c r := by
  unfold dmaPay; rw [group_ys, if_neg (by decide), if_neg (by decide), if_neg (by decide), chunk_ys]
theorem pay_yr (r : Fin 16) : dmaPay m c (yrS r) = far1 m c r := by
  unfold dmaPay; rw [group_yr, if_neg (by decide), if_neg (by decide), if_pos rfl, chunk_yr]

/-- What the barrier wait brings: the rows of both neighbours that `c` fills. -/
theorem rest_bar : bigSep ((rd (F := F) m).duties (barCell c) 0 \ ∅) (fun d => (rd (F := F) m).payload (barCell c) 0 d)
    = iprop((bigSep Finset.univ fun r => mid0 m (xn c) r) ∗ bigSep Finset.univ fun r => far0 m (yn c) r) := by
  rw [Finset.sdiff_empty, duties_bar, bigSep_univ_eq_bigSepL [false, true] (by decide) (by decide), bigSepL_cons_cons, bigSepL_singleton,
    payload_bar, payload_bar]
  unfold barPay
  rw [if_pos rfl, if_neg Bool.false_ne_true]
  rfl
/-- What a DMA wait brings. -/
theorem rest_dma (q : DmaSem sig) :
    bigSep ((rd (F := F) m).duties (dmaCell c q) 0 \ ∅) (fun d => (rd (F := F) m).payload (dmaCell c q) 0 d) = dmaPay m c q := by
  rw [Finset.sdiff_empty, duties_dma, bigSep_singleton, payload_dma]

end Sched

/-! ## What each device owes, and the levels -/

/-- The chunks from number `k` on. -/
def fromK (k : ℕ) : Finset (Fin 16) := Finset.univ.filter fun r => k ≤ r.val

theorem fromK_zero : fromK 0 = Finset.univ := Finset.filter_true_of_mem fun _ _ => Nat.zero_le _
theorem fromK_last : fromK 16 = ∅ := Finset.filter_false_of_mem fun r _ => by have := r.isLt; omega
theorem fromK_step (r : Fin 16) : fromK r.val = insert r (fromK (r.val + 1)) := by
  ext i; simp only [fromK, Finset.mem_filter, Finset.mem_univ, true_and, Finset.mem_insert, Fin.ext_iff]; omega
theorem fromK_notMem (r : Fin 16) : r ∉ fromK (r.val + 1) := by
  simp only [fromK, Finset.mem_filter, Finset.mem_univ, true_and]; omega

/-- What device `c` still owes its neighbour along `x`, the chunks from `k` on unsent; -/
def owX (c : Dev nD) (k : ℕ) : CellTallies nD τ sig Unit := ∑ r ∈ fromK k, tallyAt (dmaCell (xn c) (xrS r)) () N
/-- and its neighbour along `y`. -/
def owY (c : Dev nD) (k : ℕ) : CellTallies nD τ sig Unit := ∑ r ∈ fromK k, tallyAt (dmaCell (yn c) (yrS r)) () N

theorem owX_step (c : Dev nD) (r : Fin 16) : owX c r.val = owX c (r.val + 1) + tallyAt (dmaCell (xn c) (xrS r)) () N := by
  unfold owX; rw [fromK_step, Finset.sum_insert (fromK_notMem r), add_comm]
theorem owY_step (c : Dev nD) (r : Fin 16) : owY c r.val = owY c (r.val + 1) + tallyAt (dmaCell (yn c) (yrS r)) () N := by
  unfold owY; rw [fromK_step, Finset.sum_insert (fromK_notMem r), add_comm]
theorem owX_last (c : Dev nD) : owX c 16 = 0 := by unfold owX; rw [fromK_last, Finset.sum_empty]
theorem owY_last (c : Dev nD) : owY c 16 = 0 := by unfold owY; rw [fromK_last, Finset.sum_empty]

/-- What device `c` owes at launch: every arrival at both neighbours and a unit at both barriers. -/
def O₁ (c : Dev nD) : CellTallies nD τ sig Unit := (owY c 0 + owX c 0) + tallyAt (barCell (yn c)) () 1
def O₀ (c : Dev nD) : CellTallies nD τ sig Unit := O₁ c + tallyAt (barCell (xn c)) () 1

theorem owX_pos {c : Dev nD} {k : ℕ} {g : GSem nD τ sig} {u : Unit} (h : 0 < owX c k g u) : ∃ r, g = dmaCell (xn c) (xrS r) := by
  unfold owX at h
  rw [Finset.sum_apply, Finsupp.finset_sum_apply] at h
  obtain ⟨r, -, hr⟩ := Finset.exists_ne_zero_of_sum_ne_zero h.ne'
  rw [tallyAt_apply] at hr
  by_contra hn
  exact hr (if_neg fun h' => hn ⟨r, h'.1⟩)
theorem owY_pos {c : Dev nD} {k : ℕ} {g : GSem nD τ sig} {u : Unit} (h : 0 < owY c k g u) : ∃ r, g = dmaCell (yn c) (yrS r) := by
  unfold owY at h
  rw [Finset.sum_apply, Finsupp.finset_sum_apply] at h
  obtain ⟨r, -, hr⟩ := Finset.exists_ne_zero_of_sum_ne_zero h.ne'
  rw [tallyAt_apply] at hr
  by_contra hn
  exact hr (if_neg fun h' => hn ⟨r, h'.1⟩)

def L (g : GSem nD τ sig) : Finset Unit := if g.1.2 = .tc then {()} else ∅
/-- Barrier cells at 1, arrivals along `x` at 2, arrivals along `y` at 3, the rest at 0. -/
def lv (g : GSem nD τ sig) (_ : Unit) : ℕ :=
  match g.2 with | .reg _ => 1 | .dma q => if groupOf q = 2 then 2 else if groupOf q = 4 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_xr (c : Dev nD) (r : Fin 16) : lv (dmaCell c (xrS r)) () = 2 := if_pos (group_xr r)
theorem lv_yr (c : Dev nD) (r : Fin 16) : lv (dmaCell c (yrS r)) () = 3 := by
  show (if groupOf (yrS r) = 2 then 2 else if groupOf (yrS r) = 4 then 3 else 0) = 3
  rw [group_yr]; rfl

/-- At its barrier wait a device owes arrivals only. -/
theorem mayWait_bar (c : Dev nD) : (levAts L lv : sProp 𝕄) ⊢ MayWait (c : Thread nD τ) (.reg barS) () (owY c 0 + owX c 0) := by
  have key {g : GSem nD τ sig} {u : Unit} (hg : 0 < (owY c 0 + owX c 0) g u) :
      (∃ r, g = dmaCell (yn c) (yrS r)) ∨ ∃ r, g = dmaCell (xn c) (xrS r) := by
    rw [Pi.add_apply, Finsupp.add_apply] at hg
    rcases Nat.eq_zero_or_pos (owY c 0 g u) with h | h
    · rw [h, Nat.zero_add] at hg; exact .inr (owX_pos hg)
    · exact .inl (owY_pos h)
  refine MayOwe.of_cut (L := L) (lev := lv) 1 (fun p hp => by rw [Finset.mem_singleton.mp hp, L_tc]; exact Finset.mem_singleton_self _)
    (fun g u hg => by rcases key hg with ⟨r, rfl⟩ | ⟨r, rfl⟩ <;> exact Finset.mem_singleton_self _)
    (fun p hp => by rw [Finset.mem_singleton.mp hp]; exact le_refl _)
    (fun g u hg => by
      rcases key hg with ⟨r, rfl⟩ | ⟨r, rfl⟩
      · rw [lv_yr]; decide
      · rw [lv_xr]; decide)

/-- At its waits for arrivals along `x` a device owes arrivals along `y` only. -/
theorem mayWait_xr (c : Dev nD) (r : Fin 16) (k : ℕ) :
    (levAts L lv : sProp 𝕄) ⊢ MayWait (c : Thread nD τ) (.dma (xrS r)) () (owY c k) :=
  MayOwe.of_cut (L := L) (lev := lv) 2 (fun p hp => by rw [Finset.mem_singleton.mp hp, L_tc]; exact Finset.mem_singleton_self _)
    (fun g u hg => by rcases owY_pos hg with ⟨r, rfl⟩; exact Finset.mem_singleton_self _)
    (fun p hp => by rw [Finset.mem_singleton.mp hp]; exact le_of_eq (lv_xr c r))
    (fun g u hg => by rcases owY_pos hg with ⟨r, rfl⟩; rw [lv_yr]; decide)

end Cert.KernelIdeal.Gather

end
-- ==== Proof.KernelIdeal.Steps.lean ====
/-
# One step of each phase, and the phases

Every effect of the kernel, at a symbolic device and a symbolic chunk; then each loop of sixteen by one rule.
-/
module

public import proofs.«01_k».proof.Proof.KernelIdeal.Schedule

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- Device `c` runs `p` to a state satisfying `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## Loops -/

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp), bigSep_map]; rfl

/-- A phase run before the rest of the program. -/
theorem runs_then (c : Dev nD) {P Post : sProp 𝕄} {p : Prog (TpuEff nD τ sig (Elt F) Λ₀ .tc) PUnit}
    {k : PUnit → Prog (TpuEff nD τ sig (Elt F) Λ₀ .tc) PUnit} {Q : PUnit → sProp 𝕄} (h : P ⊢ runs c p fun _ => Post) :
    P ⊢ iprop((Post -∗ runs c (k ⟨⟩) Q) -∗ runs c (p >>= k) Q) := by
  refine BIClass.wand_intro ?_
  unfold runs
  rw [wp_bind]
  refine (sep_mono_left h).trans ((wp_frame_r _ _ _).trans (wp_mono _ _ _ fun _ => ?_))
  exact (sep_comm (PROP := sProp 𝕄)).1.trans (BIClass.wand_elim .rfl)

/-- A loop: each turn uses up its own part, and carries `R` along. -/
theorem runs_each (c : Dev nD) : ∀ {n : ℕ} (Φ Ψ : Fin n → sProp 𝕄) (R : ℕ → sProp 𝕄)
    (f : Fin n → Prog (TpuEff nD τ sig (Elt F) Λ₀ .tc) PUnit)
    (h : ∀ k, iprop(Φ k ∗ R k.val) ⊢ runs c (f k) fun _ => iprop(Ψ k ∗ R (k.val + 1))),
    iprop(bigSep Finset.univ Φ ∗ R 0) ⊢ runs c (each n f) fun _ => iprop(bigSep Finset.univ Ψ ∗ R n)
  | 0, Φ, Ψ, R, f, h => by
    rw [Finset.univ_eq_empty, bigSep_empty, bigSep_empty]
    show _ ⊢ wp _ _ _ (Prog.ret _) _
    rw [wp_ret]; exact fupd_intro
  | n + 1, Φ, Ψ, R, f, h => by
    rw [bigSep_fin_succ, bigSep_fin_succ]
    show _ ⊢ runs c (f 0 >>= fun _ => each n fun k => f k.succ) _
    have ih := runs_each c (fun k : Fin n => Φ k.succ) (fun k => Ψ k.succ) (fun k => R (k + 1)) (fun k => f k.succ)
      (fun k => h k.succ)
    have h0 : iprop(Φ 0 ∗ R 0) ⊢ runs c (f 0) fun _ => iprop(Ψ 0 ∗ R (0 + 1)) := h 0
    iintro ⟨⟨H0, HS⟩, HR⟩
    iapply (runs_then c (h0)) $$ [H0 HR]
    · isplitl [H0]; · iexact H0
      iexact HR
    iintro ⟨H0, HR⟩
    iapply (wp_mono frame _ Set.univ (Q := fun _ => iprop(Ψ 0 ∗ (bigSep Finset.univ (fun k : Fin n => Ψ k.succ) ∗ R (n + 1)))) fun _ =>
      (sep_assoc (PROP := sProp 𝕄)).2)
    iapply (wp_frame_l frame _ Set.univ)
    isplitl [H0]; · iexact H0
    iapply ih
    isplitl [HS]; · iexact HS
    iexact HR

/-! ## The cells' invariants -/

abbrev iBar : Cix := .inl ()
abbrev iLoc : Cix := .inr (.inl ())
abbrev iXS (r : Fin 16) : Cix := .inr (.inr (.inl r))
abbrev iXR (r : Fin 16) : Cix := .inr (.inr (.inr (.inl r)))
abbrev iYS (r : Fin 16) : Cix := .inr (.inr (.inr (.inr (.inl r))))
abbrev iYR (r : Fin 16) : Cix := .inr (.inr (.inr (.inr (.inr r))))

/-- What every device knows of every cell: its invariant, under the names `K` of the launch, and that round 0 is on. -/
def records (K : Dev nD × Cix → ℕ) : sProp 𝕄 :=
  iprop((bigSep Finset.univ fun ck : Dev nD × Cix => cellInv ER (rd m) (K ck) (kcell ck))
    ∗ bigSep Finset.univ fun ck : Dev nD × Cix => reached ER (kcell ck) 0)

instance records_persistent (K : Dev nD × Cix → ℕ) : BI.Persistent (records m K) := by unfold records; infer_instance

variable (K : Dev nD × Cix → ℕ)

theorem inv_at (ck : Dev nD × Cix) : records m K ⊢ cellInv ER (rd m) (K ck) (kcell ck) := by
  classical
  have h : bigSep Finset.univ (fun ck : Dev nD × Cix => (cellInv ER (rd m) (K ck) (kcell ck) : sProp 𝕄)) ⊢ cellInv ER (rd m) (K ck) (kcell ck) :=
    bigSep_elim (Finset.mem_univ ck)
  unfold records; iintro ⟨#H, -⟩
  iapply h; iexact H
theorem reached_at (ck : Dev nD × Cix) : records m K ⊢ reached ER (kcell ck) 0 := by
  classical
  have h : bigSep Finset.univ (fun ck : Dev nD × Cix => (reached ER (kcell ck) 0 : sProp 𝕄)) ⊢ reached ER (kcell ck) 0 :=
    bigSep_elim (Finset.mem_univ ck)
  unfold records; iintro ⟨-, #H⟩
  iapply h; iexact H

/-- What is carried through a loop: the records, the levels, and what is owed. -/
def carry (c : Dev nD) (O : CellTallies nD τ sig Unit) : sProp 𝕄 :=
  iprop(records m K ∗ levAts L lv ∗ ∃ W, owes (c : Thread nD τ) O W)

/-! ## The waits -/

/-- A wait on one of a device's DMA cells, for the copy that names it: what the copy left comes back, and the cell is past
    its round. -/
theorem wait_dma (c : Dev nD) (q : DmaSem sig) (k' : ℕ) (κ : ℕ) {s s' : Shape} {e e' : EltTy} {sp sp' : Space}
    {src : Memref sig .tc sp s e} {dst : Memref sig .tc sp' s' e'} {h₁ : src.view.WordExact} {h₂ : dst.view.WordExact}
    (hc : dst.view.dmaCredit = k') (hk : (rd (F := F) m).expect (dmaCell c q) 0 = k')
    (O : CellTallies nD τ sig Unit) (W : Waits sig Unit) :
    iprop(cellInv ER (rd m) κ (dmaCell c q) ∗ cred (tallyAt (dmaCell c q) () k') ∗ owes (c : Thread nD τ) O W
        ∗ MayWait (c : Thread nD τ) (.dma q) () O ∗ atPos ER (dmaCell c q) 0 ∅ 0)
      ⊢ runs c (Prog.lift (.waitDma2 q src dst h₁ h₂)) fun _ =>
          iprop(owes (c : Thread nD τ) O (insert (SemLoc.dma q, ()) W) ∗ atPos ER (dmaCell c q) 1 ∅ 0 ∗ dmaPay m c q) := by
  subst hc
  simp only [Prog.lift]
  iintro ⟨#HI, Hc, HO, HM, Hat⟩
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, hk])) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_dma m c q)) $$ Hpay
  rw [wp_ret]; imodintro
  isplitl [HO]; · iexact HO
  isplitl [Hat]; · iexact Hat
  iexact Hp

/-! ## What the copies leave -/

theorem set_heq {M M' : Memref sig .tc .hbm S256x1024 .bf16} (h : M = M') : HEq M.view.set M'.view.set := by subst h; rfl
theorem dst_set (c : Dev nD) (r : Fin 16) : ((dstM c r).view.set : Finset S16384x1024.Idx) = (midM (xn c) r).view.set :=
  eq_of_heq (set_heq (dst_eq_mid c r))
theorem mid_set (c : Dev nD) (r : Fin 16) : ((midM c r).view.set : Finset S16384x1024.Idx) = (farM (yn c) r).view.set :=
  eq_of_heq (set_heq (mid_eq_far c r))

/-- A chunk sent along `x` leaves the gathered rows at the neighbour. -/
theorem land_x (c : Dev nD) (r : Fin 16) (fd : Buf (Elt F) ((xn c : Thread nD τ).loc main_v1)) :
    ((xn c : Thread nD τ).loc main_v1 ↦[(dstM c r).view.set]{fullShare}
        (dstM c r).view.write (Elt F) fd ((srcM c r).view.read (Elt F) (m ((c : Thread nD τ).loc main_arg0))) Finset.univ : sProp 𝕄)
      ⊢ dmaPay m (xn c) (xrS r) := by
  rw [pay_xr]; unfold mid1 oPts; rw [← dst_set]
  refine Entails.of_eq (pointsTo_congr fun i hi => ?_)
  obtain ⟨x, -, rfl⟩ := Finset.mem_map.mp hi
  exact (View.write_emb_of_mem _ _ (Finset.mem_univ _)).trans (outF_dst m c r x).symm

/-- A chunk forwarded along `y` leaves the gathered rows at the neighbour. -/
theorem land_y (c : Dev nD) (r : Fin 16) (fd : Buf (Elt F) ((yn c : Thread nD τ).loc main_v1)) :
    ((yn c : Thread nD τ).loc main_v1 ↦[(midM c r).view.set]{fullShare}
        (midM c r).view.write (Elt F) fd ((midM c r).view.read (Elt F) (outF m c)) Finset.univ : sProp 𝕄)
      ⊢ dmaPay m (yn c) (yrS r) := by
  rw [pay_yr]; unfold far1 oPts; rw [← mid_set]
  refine Entails.of_eq (pointsTo_congr fun i hi => ?_)
  rw [outF_mid m c r i hi]
  obtain ⟨x, -, rfl⟩ := Finset.mem_map.mp hi
  exact View.write_emb_of_mem _ _ (Finset.mem_univ _)

/-- The local copy leaves the device's own rows. -/
theorem land_own (c : Dev nD) (fd : Buf (Elt F) ((c : Thread nD τ).loc main_v1)) :
    ((c : Thread nD τ).loc main_v1 ↦[(ownM c).view.set]{fullShare}
        (ownM c).view.write (Elt F) fd (xM.view.read (Elt F) (m ((c : Thread nD τ).loc main_arg0))) Finset.univ : sProp 𝕄)
      ⊢ own1 m c := by
  unfold own1 oPts
  refine Entails.of_eq (pointsTo_congr fun i hi => ?_)
  obtain ⟨x, -, rfl⟩ := Finset.mem_map.mp hi
  exact (View.write_emb_of_mem _ _ (Finset.mem_univ _)).trans (outF_own m c x).symm

/-! ## The copies -/

/-- Sending a chunk along `x`. -/
theorem xSend_step (c : Dev nD) (r : Fin 16) :
    iprop((argR m c r ∗ mid0 m (xn c) r ∗ dutyTok ER (dmaCell c (xsS r)) 0 false ∗ dutyTok ER (dmaCell (xn c) (xrS r)) 0 false)
        ∗ carry m K c (owY c 0 + owX c r.val))
      ⊢ runs c (xSend c r) fun _ => iprop(cred (tallyAt (dmaCell c (xsS r)) () N) ∗ carry m K c (owY c 0 + owX c (r.val + 1))) := by
  have e : (⟨k0_dev3 c, k0_dev3_lt c⟩ : Dev nD) = xn c := dev3_eq c
  unfold xSend carry argR aPts mid0 oPts
  rw [← dst_set]
  generalize_proofs _ _ _ p q
  revert p q
  rw [e]
  intro p q
  simp only [Prog.lift]
  iintro ⟨⟨Ha, Hm, Ht, Ht'⟩, #HI, #Hlev, %W, HO⟩
  iapply (Rounds.wp_send_pointsTo 𝒱₀ ER (rd m) (c : Thread nD τ) none
      (src := srcM c r) (c' := (xn c : Thread nD τ)) (dst := dstM c r) (sS := .dma (xsS r)) (sem := .dma (xrS r))
      (κ₁ := K (c, iXS r)) (κ₂ := K (xn c, iXR r)) (r₁ := 0) (r₂ := 0) (d₁ := false) (d₂ := false)
      (fd := m ((xn c : Thread nD τ).loc main_v1))
      (by rw [duties_dma]; exact Finset.mem_singleton_self _) (by rw [duties_dma]; exact Finset.mem_singleton_self _) () () N
      (credit_dst c r) (amount_dma m c (by rw [group_xs]; decide) false) (amount_dma m (xn c) (by rw [group_xr]; decide) false)
      (owY c 0 + owX c (r.val + 1)) (O₀ := owY c 0 + owX c r.val) (by rw [owX_step, add_assoc]) (W := W)
      (by rw [payload_dma, pay_xs]; exact Laws.affine)
      (by rw [payload_dma]; exact land_x m c r _)) $$ [Ha Hm Ht Ht' HO]
  · isplitr
    · iapply (inv_at m K (c, iXS r)); iexact HI
    isplitr
    · iapply (inv_at m K (xn c, iXR r)); iexact HI
    isplitl [Ha]; · iexact Ha
    isplitl [Hm]; · iexact Hm
    isplitl [HO]; · iexact HO
    isplitl [Ht]; · iexact Ht
    isplitr
    · iapply (reached_at m K (c, iXS r)); iexact HI
    isplitl [Ht']; · iexact Ht'
    iapply (reached_at m K (xn c, iXR r)); iexact HI
  iintro ⟨Hc, HO⟩
  rw [wp_ret]; imodintro
  isplitl [Hc]; · iexact Hc
  isplitr; · iexact HI
  isplitr; · iexact Hlev
  iexists W; iexact HO

/-- Forwarding a chunk along `y`. -/
theorem ySend_step (c : Dev nD) (r : Fin 16) :
    iprop((mid1 m c r ∗ far0 m (yn c) r ∗ dutyTok ER (dmaCell c (ysS r)) 0 false ∗ dutyTok ER (dmaCell (yn c) (yrS r)) 0 false)
        ∗ carry m K c (owY c r.val))
      ⊢ runs c (ySend c r) fun _ => iprop(cred (tallyAt (dmaCell c (ysS r)) () N) ∗ carry m K c (owY c (r.val + 1))) := by
  have e : (⟨k0_dev19 c, k0_dev19_lt c⟩ : Dev nD) = yn c := dev19_eq c
  unfold ySend carry far0 oPts
  rw [← mid_set]
  generalize_proofs _ _ _ p q
  revert p q
  rw [e]
  intro p q
  simp only [Prog.lift]
  iintro ⟨⟨Ha, Hm, Ht, Ht'⟩, #HI, #Hlev, %W, HO⟩
  iapply (Rounds.wp_send_pointsTo 𝒱₀ ER (rd m) (c : Thread nD τ) none
      (src := midM c r) (c' := (yn c : Thread nD τ)) (dst := midM c r) (sS := .dma (ysS r)) (sem := .dma (yrS r))
      (κ₁ := K (c, iYS r)) (κ₂ := K (yn c, iYR r)) (r₁ := 0) (r₂ := 0) (d₁ := false) (d₂ := false)
      (q := fullShare) (fs := outF m c) (fd := m ((yn c : Thread nD τ).loc main_v1))
      (by rw [duties_dma]; exact Finset.mem_singleton_self _) (by rw [duties_dma]; exact Finset.mem_singleton_self _) () () N
      (credit_mid c r) (amount_dma m c (by rw [group_ys]; decide) false) (amount_dma m (yn c) (by rw [group_yr]; decide) false)
      (owY c (r.val + 1)) (owY_step c r) (W := W)
      (by rw [payload_dma, pay_ys]; unfold mid1 oPts; exact .rfl)
      (by rw [payload_dma]; exact land_y m c r _)) $$ [Ha Hm Ht Ht' HO]
  · isplitr
    · iapply (inv_at m K (c, iYS r)); iexact HI
    isplitr
    · iapply (inv_at m K (yn c, iYR r)); iexact HI
    isplitl [Ha]; · unfold mid1 oPts; iexact Ha
    isplitl [Hm]; · iexact Hm
    isplitl [HO]; · iexact HO
    isplitl [Ht]; · iexact Ht
    isplitr
    · iapply (reached_at m K (c, iYS r)); iexact HI
    isplitl [Ht']; · iexact Ht'
    iapply (reached_at m K (yn c, iYR r)); iexact HI
  iintro ⟨Hc, HO⟩
  rw [wp_ret]; imodintro
  isplitl [Hc]; · iexact Hc
  isplitr; · iexact HI
  isplitr; · iexact Hlev
  iexists W; iexact HO

/-- Starting the local copy. -/
theorem ownCopy_step (c : Dev nD) :
    iprop(argL m c ∗ own0 m c ∗ dutyTok ER (dmaCell c locS) 0 false ∗ records m K)
      ⊢ runs c (ownCopy c) fun _ => iprop(cred (tallyAt (dmaCell c locS) () NL)) := by
  unfold ownCopy argL aPts own0 oPts
  simp only [Prog.lift]
  iintro ⟨Ha, Hm, Ht, #HI⟩
  iapply (Rounds.wp_copy_pointsTo 𝒱₀ ER (rd m) (c : Thread nD τ) none (dst := ownM c) (sem := .dma locS) (κ := K (c, iLoc)) (r := 0) (d := false)
      (q := fullShare.left) (fs := m ((c : Thread nD τ).loc main_arg0)) (fd := m ((c : Thread nD τ).loc main_v1))
      (by rw [duties_dma]; exact Finset.mem_singleton_self _) () NL (credit_own c) (amount_loc m c false)
      (by
        rw [payload_dma, pay_loc]
        refine BIClass.sep_mono (land_own m c _) ?_
        unfold argL aPts; rw [show (xM.view.set : Finset S8192x1024.Idx) = Finset.univ from View.set_whole _])) $$ [Ha Hm Ht]
  · isplitr
    · iapply (inv_at m K (c, iLoc)); iexact HI
    isplitl [Ha]
    · rw [← show (xM.view.set : Finset S8192x1024.Idx) = Finset.univ from View.set_whole _]; iexact Ha
    isplitl [Hm]; · iexact Hm
    isplitl [Ht]; · iexact Ht
    iapply (reached_at m K (c, iLoc)); iexact HI
  iintro Hc
  rw [wp_ret]; imodintro
  iexact Hc

end Cert.KernelIdeal.Gather

end
-- ==== Proof.KernelIdeal.Body.lean ====
/-
# The body of one device

The phases in order, at a symbolic device: from its rows, its tokens and its positions, to the gathered rows with every
cell at zero.
-/
module

public import proofs.«01_k».proof.Proof.KernelIdeal.Steps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cix → ℕ)

/-- One conjunct per chunk. -/
abbrev chunks (Φ : Fin 16 → sProp 𝕄) : sProp 𝕄 := bigSep Finset.univ Φ

theorem zip (Φ Ψ : Fin 16 → sProp 𝕄) : iprop(chunks Φ ∗ chunks Ψ) ⊢ chunks fun r => iprop(Φ r ∗ Ψ r) :=
  Entails.of_eq (bigSep_sep' _ _ _).symm
theorem unzip (Φ Ψ : Fin 16 → sProp 𝕄) : chunks (fun r => iprop(Φ r ∗ Ψ r)) ⊢ iprop(chunks Φ ∗ chunks Ψ) :=
  Entails.of_eq (bigSep_sep' _ _ _)

/-! ## The waits, carrying -/

/-- What a wait on a DMA cell needs, -/
abbrev armed (c : Dev nD) (q : DmaSem sig) (k' : ℕ) : sProp 𝕄 :=
  iprop(cred (tallyAt (dmaCell c q) () k') ∗ atPos ER (dmaCell c q) 0 ∅ 0)
/-- and what it brings: the cell closed at zero, and the payload. -/
abbrev done (c : Dev nD) (q : DmaSem sig) : sProp 𝕄 := iprop(semVal (dmaCell c q) 0 ∗ dmaPay m c q)

theorem wait_step (c : Dev nD) (i : Qix) (k' : ℕ) {s s' : Shape} {e e' : EltTy} {sp sp' : Space}
    {src : Memref sig .tc sp s e} {dst : Memref sig .tc sp' s' e'} {h₁ : src.view.WordExact} {h₂ : dst.view.WordExact}
    (hc : dst.view.dmaCredit = k') (hk : (rd (F := F) m).expect (dmaCell c (qS i)) 0 = k')
    (O : CellTallies nD τ sig Unit) (hO : (levAts L lv : sProp 𝕄) ⊢ MayWait (c : Thread nD τ) (.dma (qS i)) () O) :
    iprop(armed c (qS i) k' ∗ carry m K c O)
      ⊢ runs c (Prog.lift (.waitDma2 (qS i) src dst h₁ h₂)) fun _ => iprop(done m c (qS i) ∗ carry m K c O) := by
  unfold carry
  iintro ⟨⟨Hc, Hat⟩, #HI, #Hlev, %W, HO⟩
  ihave #Hinv := (inv_at m K (c, .inr i)) $$ HI
  ihave HM := hO $$ Hlev
  have h := wait_dma m c (qS i) k' (K (c, .inr i)) (h₁ := h₁) (h₂ := h₂) hc hk O W
  ihave Hw := h $$ [Hc Hat HO HM]
  · isplitr; · iexact Hinv
    isplitl [Hc]; · iexact Hc
    isplitl [HO]; · iexact HO
    isplitl [HM]; · iexact HM
    iexact Hat
  iapply (wp_fupd frame _ Set.univ)
  iapply (wp_wand frame _ Set.univ) $$ Hw
  iintro %_ ⟨HO, Hat, Hp⟩
  imod (Rounds.cell_close ER (rd m) (Set.mem_univ (K (c, .inr i))) (fun h => h) (R := 0 + 1) (duties_later m (dmaCell c (qS i)))) $$ [Hat] with Hz
  · isplitr; · iexact Hinv
    iexact Hat
  imodintro
  isplitl [Hz Hp]
  · isplitl [Hz]; · iexact Hz
    iexact Hp
  isplitr; · iexact HI
  isplitr; · iexact Hlev
  iexists (insert (SemLoc.dma (qS i), ()) W); iexact HO

theorem mayWait_none (c : Dev nD) (sm : SemLoc sig) : (levAts L lv : sProp 𝕄) ⊢ MayWait (c : Thread nD τ) sm () 0 := by
  rw [MayWait_zero]; exact Laws.affine

/-! ## The phases -/

/-- What the neighbours owe the device at launch: the two units at its barrier, -/
abbrev barCred (c : Dev nD) : sProp 𝕄 := cred (tallyAt (barCell c) () 2)

theorem handshake_step (c : Dev nD) :
    iprop((chunks (mid0 m c) ∗ chunks (far0 m c) ∗ dutyTok ER (barCell (xn c)) 0 false ∗ dutyTok ER (barCell (yn c)) 0 true
        ∗ barCred c ∗ atPos ER (barCell c) 0 ∅ 0) ∗ carry m K c (O₀ c))
      ⊢ runs c (handshake c) fun _ => iprop((semVal (barCell c) 0 ∗ chunks (mid0 m (xn c)) ∗ chunks (far0 m (yn c)))
          ∗ carry m K c (owY c 0 + owX c 0)) := by
  unfold handshake carry
  simp only [semSignalWord, semWaitWord, Prog.lift, Prog.bind_op, Prog.bind_ret, Prog.pure_eq_ret]
  iintro ⟨⟨Hm, Hf, HtX, HtY, Hc, Hat⟩, #HI, #Hlev, %W, HO⟩
  iapply (Rounds.wp_signal 𝒱₀ ER (rd m) (c : Thread nD τ) none (dst := (xn c : Thread nD τ)) (sem := barS) (r := 0) (d := false) (k' := 1)
      (κ := K (xn c, iBar)) (by rw [duties_bar]; exact Finset.mem_univ _) (amount_bar m (xn c) false) () (O₁ c) (O₀ := O₀ c) rfl (W := W)) $$ [Hm HtX HO]
  · isplitr
    · iapply (inv_at m K (xn c, iBar)); iexact HI
    isplitl [HO]; · iexact HO
    isplitl [HtX]; · iexact HtX
    isplitl [Hm]
    · rw [payload_bar]; unfold barPay; rw [if_neg Bool.false_ne_true, xn_xn]; iexact Hm
    iapply (reached_at m K (xn c, iBar)); iexact HI
  iintro HO
  iapply (Rounds.wp_signal 𝒱₀ ER (rd m) (c : Thread nD τ) none (dst := (yn c : Thread nD τ)) (sem := barS) (r := 0) (d := true) (k' := 1)
      (κ := K (yn c, iBar)) (by rw [duties_bar]; exact Finset.mem_univ _) (amount_bar m (yn c) true) () (owY c 0 + owX c 0) (O₀ := O₁ c) rfl (W := W)) $$ [Hf HtY HO]
  · isplitr
    · iapply (inv_at m K (yn c, iBar)); iexact HI
    isplitl [HO]; · iexact HO
    isplitl [HtY]; · iexact HtY
    isplitl [Hf]
    · rw [payload_bar]; unfold barPay; rw [if_pos rfl, yn_yn]; iexact Hf
    iapply (reached_at m K (yn c, iBar)); iexact HI
  iintro HO
  ihave #Hinv := (inv_at m K (c, iBar)) $$ HI
  ihave HM := (mayWait_bar c) $$ Hlev
  iapply (Rounds.wp_wait_rest_token 𝒱₀ ER (rd m) (c : Thread nD τ) none (κ := K (c, iBar))
      (wpE_semWait_eq 𝒱₀ (c : Thread nD τ) none Set.univ) (Set.mem_univ _) () (O := owY c 0 + owX c 0) (W := W) (R := 0) (m := 0) (T := ∅)
      (by rw [Nat.zero_add]; exact (expect_bar m c).symm)) $$ [Hc HO HM Hat]
  · isplitr; · iexact Hinv
    isplitl [Hc]; · iexact Hc
    isplitl [HO]; · iexact HO
    isplitl [HM]; · iexact HM
    iexact Hat
  iintro ⟨HO, Hat, -, Hpay⟩
  ihave Hp := (Entails.of_eq (rest_bar m c)) $$ Hpay
  icases Hp with ⟨Hm, Hf⟩
  imod (Rounds.cell_close ER (rd m) (Set.mem_univ (K (c, iBar))) (fun h => h) (R := 0 + 1) (duties_later m (barCell c))) $$ [Hat] with Hz
  · isplitr; · iexact Hinv
    iexact Hat
  rw [wp_ret]; imodintro
  isplitl [Hz Hm Hf]
  · isplitl [Hz]; · iexact Hz
    isplitl [Hm]; · iexact Hm
    iexact Hf
  isplitr; · iexact HI
  isplitr; · iexact Hlev
  iexists (insert (SemLoc.reg barS, ()) W); iexact HO

theorem xSend_phase (c : Dev nD) :
    iprop(chunks (fun r => iprop(argR m c r ∗ mid0 m (xn c) r ∗ dutyTok ER (dmaCell c (xsS r)) 0 false ∗ dutyTok ER (dmaCell (xn c) (xrS r)) 0 false))
        ∗ carry m K c (owY c 0 + owX c 0))
      ⊢ runs c (each 16 (xSend c)) fun _ => iprop(chunks (fun r => cred (tallyAt (dmaCell c (xsS r)) () N)) ∗ carry m K c (owY c 0)) := by
  have h := runs_each c _ _ (fun k => carry m K c (owY c 0 + owX c k)) (xSend c) (xSend_step m K c)
  simp only [owX_last, add_zero] at h
  exact h

/-- One arrival along `x`, forwarded. -/
theorem forward_step (c : Dev nD) (r : Fin 16) :
    iprop((armed c (xrS r) N ∗ far0 m (yn c) r ∗ dutyTok ER (dmaCell c (ysS r)) 0 false ∗ dutyTok ER (dmaCell (yn c) (yrS r)) 0 false)
        ∗ carry m K c (owY c r.val))
      ⊢ runs c (midWait c xrS r >>= fun _ => ySend c r) fun _ =>
          iprop((semVal (dmaCell c (xrS r)) 0 ∗ cred (tallyAt (dmaCell c (ysS r)) () N)) ∗ carry m K c (owY c (r.val + 1))) := by
  have hw : iprop(armed c (xrS r) N ∗ carry m K c (owY c r.val)) ⊢ runs c (midWait c xrS r) fun _ =>
      iprop(done m c (xrS r) ∗ carry m K c (owY c r.val)) :=
    wait_step m K c (.inr (.inr (.inl r))) N (credit_mid c r) (expect_dma m c (by show groupOf (xrS r) ≠ 0; rw [group_xr]; decide)) _ (mayWait_xr c r r.val)
  iintro ⟨⟨Ha, Hf, Ht, Ht'⟩, HR⟩
  iapply (runs_then c hw) $$ [Ha HR]
  · isplitl [Ha]; · iexact Ha
    iexact HR
  iintro ⟨⟨Hz, Hp⟩, HR⟩
  iapply (wp_mono frame _ Set.univ (Q := fun _ => iprop(semVal (dmaCell c (xrS r)) 0 ∗ (cred (tallyAt (dmaCell c (ysS r)) () N) ∗ carry m K c (owY c (r.val + 1)))))
    fun _ => (sep_assoc (PROP := sProp 𝕄)).2)
  iapply (wp_frame_l frame _ Set.univ)
  isplitl [Hz]; · iexact Hz
  iapply (ySend_step m K c r)
  isplitr [HR]
  · isplitl [Hp]
    · iapply (Entails.of_eq (pay_xr m c r)); iexact Hp
    isplitl [Hf]; · iexact Hf
    isplitl [Ht]; · iexact Ht
    iexact Ht'
  iexact HR

theorem forward_phase (c : Dev nD) :
    iprop(chunks (fun r => iprop(armed c (xrS r) N ∗ far0 m (yn c) r ∗ dutyTok ER (dmaCell c (ysS r)) 0 false ∗ dutyTok ER (dmaCell (yn c) (yrS r)) 0 false))
        ∗ carry m K c (owY c 0))
      ⊢ runs c (each 16 fun r => midWait c xrS r >>= fun _ => ySend c r) fun _ =>
          iprop(chunks (fun r => iprop(semVal (dmaCell c (xrS r)) 0 ∗ cred (tallyAt (dmaCell c (ysS r)) () N))) ∗ carry m K c 0) := by
  have h := runs_each c _ _ (fun k => carry m K c (owY c k)) _ (forward_step m K c)
  simp only [owY_last] at h
  exact h

/-- Sixteen waits of one kind, nothing owed. -/
theorem wait_phase (c : Dev nD) (i : Fin 16 → Qix) (f : Fin 16 → Prog (TpuEff nD τ sig (Elt F) Λ₀ .tc) PUnit)
    (h : ∀ r, iprop(armed c (qS (i r)) N ∗ carry m K c 0) ⊢ runs c (f r) fun _ => iprop(done m c (qS (i r)) ∗ carry m K c 0)) :
    iprop(chunks (fun r => armed c (qS (i r)) N) ∗ carry m K c 0)
      ⊢ runs c (each 16 f) fun _ => iprop(chunks (fun r => done m c (qS (i r))) ∗ carry m K c 0) :=
  runs_each c _ _ (fun _ => carry m K c 0) f h

theorem far_phase (c : Dev nD) :
    iprop(chunks (fun r => armed c (yrS r) N) ∗ carry m K c 0)
      ⊢ runs c (each 16 (farWait c)) fun _ => iprop(chunks (fun r => done m c (yrS r)) ∗ carry m K c 0) :=
  wait_phase m K c (fun r => .inr (.inr (.inr (.inr r)))) (farWait c) fun r =>
    wait_step m K c (.inr (.inr (.inr (.inr r)))) N (credit_far c r) (expect_dma m c (by show groupOf (yrS r) ≠ 0; rw [group_yr]; decide)) 0 (mayWait_none c _)
theorem src_phase (c : Dev nD) :
    iprop(chunks (fun r => armed c (xsS r) N) ∗ carry m K c 0)
      ⊢ runs c (each 16 (srcWait c)) fun _ => iprop(chunks (fun r => done m c (xsS r)) ∗ carry m K c 0) :=
  wait_phase m K c (fun r => .inr (.inl r)) (srcWait c) fun r =>
    wait_step m K c (.inr (.inl r)) N (credit_src c r) (expect_dma m c (by show groupOf (xsS r) ≠ 0; rw [group_xs]; decide)) 0 (mayWait_none c _)
theorem mid_phase (c : Dev nD) :
    iprop(chunks (fun r => armed c (ysS r) N) ∗ carry m K c 0)
      ⊢ runs c (each 16 (midWait c ysS)) fun _ => iprop(chunks (fun r => done m c (ysS r)) ∗ carry m K c 0) :=
  wait_phase m K c (fun r => .inr (.inr (.inr (.inl r)))) (midWait c ysS) fun r =>
    wait_step m K c (.inr (.inr (.inr (.inl r)))) N (credit_mid c r) (expect_dma m c (by show groupOf (ysS r) ≠ 0; rw [group_ys]; decide)) 0 (mayWait_none c _)
theorem own_phase (c : Dev nD) :
    iprop(armed c locS NL ∗ carry m K c 0) ⊢ runs c (ownWait c) fun _ => iprop(done m c locS ∗ carry m K c 0) :=
  wait_step m K c (.inl ()) NL (credit_own c) (expect_loc m c) 0 (mayWait_none c _)

/-! ## The whole body -/

/-- The rows a device starts from. -/
def rows0 (c : Dev nD) : sProp 𝕄 :=
  iprop(own0 m c ∗ chunks (mid0 m c) ∗ chunks (far0 m c) ∗ argL m c ∗ chunks (argR m c))
/-- The tokens of the duties it pays. -/
def toks (c : Dev nD) : sProp 𝕄 :=
  iprop(dutyTok ER (barCell (xn c)) 0 false ∗ dutyTok ER (barCell (yn c)) 0 true ∗ dutyTok ER (dmaCell c locS) 0 false
    ∗ chunks (fun r => dutyTok ER (dmaCell c (xsS r)) 0 false) ∗ chunks (fun r => dutyTok ER (dmaCell (xn c) (xrS r)) 0 false)
    ∗ chunks (fun r => dutyTok ER (dmaCell c (ysS r)) 0 false) ∗ chunks (fun r => dutyTok ER (dmaCell (yn c) (yrS r)) 0 false))
/-- What it is owed. -/
def creds (c : Dev nD) : sProp 𝕄 :=
  iprop(barCred c ∗ chunks (fun r => cred (tallyAt (dmaCell c (xrS r)) () N)) ∗ chunks (fun r => cred (tallyAt (dmaCell c (yrS r)) () N)))
/-- One thing per DMA cell of a device, group by group. -/
def perCell (Φ : DmaSem sig → sProp 𝕄) : sProp 𝕄 :=
  iprop(Φ locS ∗ chunks (fun r => Φ (xsS r)) ∗ chunks (fun r => Φ (xrS r)) ∗ chunks (fun r => Φ (ysS r)) ∗ chunks (fun r => Φ (yrS r)))
/-- Its positions. -/
def places (c : Dev nD) : sProp 𝕄 :=
  iprop(atPos ER (barCell c) 0 ∅ 0 ∗ perCell fun q => atPos ER (dmaCell c q) 0 ∅ 0)
/-- What it ends with: every cell at zero, -/
def zeros (c : Dev nD) : sProp 𝕄 := iprop(semVal (barCell c) 0 ∗ perCell fun q => semVal (dmaCell c q) 0)
/-- and the gathered rows, with the argument. -/
def rows1 (c : Dev nD) : sProp 𝕄 := iprop(own1 m c ∗ chunks (mid1 m c) ∗ chunks (far1 m c) ∗ argL m c)

theorem dev_body (c : Dev nD) :
    iprop(rows0 m c ∗ toks c ∗ creds c ∗ places c ∗ carry m K c (O₀ c))
      ⊢ runs c (Prog.lift .deviceId >>= fun d => devBody d) fun _ => iprop(zeros c ∗ rows1 m c ∗ carry m K c 0) := by
  unfold runs
  simp only [Prog.lift, Prog.bind_op, Prog.bind_ret, wp_deviceId]
  unfold rows0 toks creds places perCell devBody
  iintro ⟨⟨Hown, Hmid, Hfar, HaL, HaR⟩, ⟨HtbX, HtbY, HtL, HtXS, HtXR, HtYS, HtYR⟩, ⟨HcB, HcX, HcY⟩, ⟨HpB, HpL, HpXS, HpXR, HpYS, HpYR⟩, HR⟩
  -- the handshake
  iapply (runs_then c (handshake_step m K c)) $$ [Hmid Hfar HtbX HtbY HcB HpB HR]
  · isplitr [HR]
    · isplitl [Hmid]; · iexact Hmid
      isplitl [Hfar]; · iexact Hfar
      isplitl [HtbX]; · iexact HtbX
      isplitl [HtbY]; · iexact HtbY
      isplitl [HcB]; · iexact HcB
      iexact HpB
    iexact HR
  iintro ⟨⟨HzB, Hmid, Hfar⟩, HR⟩
  -- the sends along `x`
  iapply (runs_then c (xSend_phase m K c)) $$ [HaR Hmid HtXS HtXR HR]
  · isplitr [HR]
    · iapply (zip (argR m c))
      isplitl [HaR]; · iexact HaR
      iapply (zip (mid0 m (xn c)))
      isplitl [Hmid]; · iexact Hmid
      iapply (zip (fun r => dutyTok ER (dmaCell c (xsS r)) 0 false))
      isplitl [HtXS]; · iexact HtXS
      iexact HtXR
    iexact HR
  iintro ⟨HcXS, HR⟩
  unfold carry
  icases HR with ⟨#HI, HR⟩
  -- the local copy
  iapply (runs_then c (ownCopy_step m K c)) $$ [HaL Hown HtL]
  · isplitl [HaL]; · iexact HaL
    isplitl [Hown]; · iexact Hown
    isplitl [HtL]; · iexact HtL
    iexact HI
  iintro HcL
  -- the arrivals along `x`, forwarded along `y`
  iapply (runs_then c (forward_phase m K c)) $$ [HcX HpXR Hfar HtYS HtYR HR]
  · isplitr [HR]
    · iapply (zip (fun r => armed c (xrS r) N))
      isplitl [HcX HpXR]
      · iapply (zip (fun r => cred (tallyAt (dmaCell c (xrS r)) () N)))
        isplitl [HcX]; · iexact HcX
        iexact HpXR
      iapply (zip (far0 m (yn c)))
      isplitl [Hfar]; · iexact Hfar
      iapply (zip (fun r => dutyTok ER (dmaCell c (ysS r)) 0 false))
      isplitl [HtYS]; · iexact HtYS
      iexact HtYR
    unfold carry
    isplitr; · iexact HI
    iexact HR
  iintro ⟨H, HR⟩
  ihave H2 := (unzip _ _) $$ H
  icases H2 with ⟨HzXR, HcYS⟩
  -- the arrivals along `y`
  iapply (runs_then c (far_phase m K c)) $$ [HcY HpYR HR]
  · isplitr [HR]
    · iapply (zip (fun r => cred (tallyAt (dmaCell c (yrS r)) () N)))
      isplitl [HcY]; · iexact HcY
      iexact HpYR
    iexact HR
  iintro ⟨H, HR⟩
  ihave H2 := (unzip _ _) $$ H
  icases H2 with ⟨HzYR, Hfar⟩
  -- the sends along `x` gone
  iapply (runs_then c (src_phase m K c)) $$ [HcXS HpXS HR]
  · isplitr [HR]
    · iapply (zip (fun r => cred (tallyAt (dmaCell c (xsS r)) () N)))
      isplitl [HcXS]; · iexact HcXS
      iexact HpXS
    iexact HR
  iintro ⟨H, HR⟩
  ihave H2 := (unzip _ _) $$ H
  icases H2 with ⟨HzXS, -⟩
  -- the forwards along `y` gone
  iapply (runs_then c (mid_phase m K c)) $$ [HcYS HpYS HR]
  · isplitr [HR]
    · iapply (zip (fun r => cred (tallyAt (dmaCell c (ysS r)) () N)))
      isplitl [HcYS]; · iexact HcYS
      iexact HpYS
    iexact HR
  iintro ⟨H, HR⟩
  ihave H2 := (unzip _ _) $$ H
  icases H2 with ⟨HzYS, Hmid⟩
  -- the local copy done
  ihave Hw := (own_phase m K c) $$ [HcL HpL HR]
  · isplitr [HR]
    · isplitl [HcL]; · iexact HcL
      iexact HpL
    iexact HR
  iapply (wp_wand frame _ Set.univ) $$ Hw
  iintro %_ ⟨⟨HzL, Hp⟩, HR⟩
  ihave Ho := (Entails.of_eq (pay_loc m c)) $$ Hp
  icases Ho with ⟨Hown, HaL⟩
  ihave Hfar := (Entails.of_eq (congrArg chunks (funext (pay_yr m c)))) $$ Hfar
  ihave Hmid := (Entails.of_eq (congrArg chunks (funext (pay_ys m c)))) $$ Hmid
  unfold zeros perCell rows1
  isplitl [HzB HzL HzXS HzXR HzYS HzYR]
  · isplitl [HzB]; · iexact HzB
    isplitl [HzL]; · iexact HzL
    isplitl [HzXS]; · iexact HzXS
    isplitl [HzXR]; · iexact HzXR
    isplitl [HzYS]; · iexact HzYS
    iexact HzYR
  isplitr [HR]
  · isplitl [Hown]; · iexact Hown
    isplitl [Hmid]; · iexact Hmid
    isplitl [Hfar]; · iexact Hfar
    iexact HaL
  unfold carry; iexact HR

end Cert.KernelIdeal.Gather

end
-- ==== Proof.KernelIdeal.Deal.lean ====
/-
# What the launch deals

The buffers cut into the rows the protocol moves and joined again, the credit each cell starts with, and the tokens dealt to
the devices that pay them.
-/
module

public import proofs.«01_k».proof.Proof.KernelIdeal.Body
public import Idealize.ShloMosaic.Lib.Ring
public import Idealize.ShloMosaic.Lib.Pipeline.Launch

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over the cells -/

theorem bigSep_unit (Φ : Unit → sProp 𝕄) : bigSep Finset.univ Φ = Φ () := by
  rw [Finset.univ_unique, bigSep_singleton]

/-- Over the parts of a result: the device's own rows, then both kinds of chunk. -/
theorem bigSep_parts (Φ : Unit ⊕ (Fin 16 ⊕ Fin 16) → sProp 𝕄) :
    bigSep Finset.univ Φ = iprop(Φ (.inl ()) ∗ chunks (fun r => Φ (.inr (.inl r))) ∗ chunks (fun r => Φ (.inr (.inr r)))) := by
  rw [bigSep_univ_sum, bigSep_univ_sum, bigSep_unit]; rfl

/-- Over the DMA cells of a device: group by group. -/
theorem bigSep_cells (Φ : DmaSem sig → sProp 𝕄) : bigSep Finset.univ (fun q : Qix => Φ (qS q)) = perCell Φ := by
  rw [bigSep_univ_sum, bigSep_univ_sum, bigSep_univ_sum, bigSep_univ_sum, bigSep_unit]; rfl

/-- Over all cells of a device. -/
theorem bigSep_all (c : Dev nD) (Φ : GSem nD τ sig → sProp 𝕄) :
    bigSep Finset.univ (fun k : Cix => Φ (kcell (c, k))) = iprop(Φ (barCell c) ∗ perCell fun q => Φ (dmaCell c q)) := by
  rw [← bigSep_cells (fun q => Φ (dmaCell c q)), bigSep_univ_sum, bigSep_unit]; rfl

/-! ## The buffers -/

/-- The result held whole is its parts held one by one. -/
theorem out_parts (c : Dev nD) (f : Buf (Elt F) ((c : Thread nD τ).loc main_v1)) :
    ((c : Thread nD τ).loc main_v1 ↦{fullShare} f : sProp 𝕄)
      = iprop(oPts c (ownM c).view.set f ∗ chunks (fun r => oPts c (midM c r).view.set f) ∗ chunks (fun r => oPts c (farM c r).view.set f)) := by
  rw [Ring.pointsTo_blocks (ℓ := (c : Thread nD τ).loc main_v1) (part c) (part_disjoint c) (part_cover c) f, bigSep_parts]
  rfl

theorem out_start (c : Dev nD) : ((c : Thread nD τ).loc main_v1 ↦{fullShare} m ((c : Thread nD τ).loc main_v1) : sProp 𝕄)
    = iprop(own0 m c ∗ chunks (mid0 m c) ∗ chunks (far0 m c)) := out_parts c _
theorem out_end (c : Dev nD) : ((c : Thread nD τ).loc main_v1 ↦{fullShare} outF m c : sProp 𝕄)
    = iprop(own1 m c ∗ chunks (mid1 m c) ∗ chunks (far1 m c)) := out_parts c _

/-- The two buffers as launched are the rows the body starts from. -/
theorem rows_start (c : Dev nD) :
    iprop(((c : Thread nD τ).loc main_arg0 ↦{fullShare} m ((c : Thread nD τ).loc main_arg0))
        ∗ ((c : Thread nD τ).loc main_v1 ↦{fullShare} m ((c : Thread nD τ).loc main_v1)) : sProp 𝕄) ⊢ rows0 m c := by
  have hA : ((c : Thread nD τ).loc main_arg0 ↦{fullShare.right} m ((c : Thread nD τ).loc main_arg0) : sProp 𝕄) ⊢ chunks (argR m c) := by
    have hb := pointsTo_biUnion (Ix := Unit) (Name := ℕ) (U := UU) (Lvl := ℕ) (q := fullShare.right) (f := m ((c : Thread nD τ).loc main_arg0)) (Finset.univ : Finset (Fin 16))
      (fun r => ((srcM c r).view.set : Finset S8192x1024.Idx)) (fun r _ r' _ h => src_disjoint c r r' h)
    have hs := pointsTo_split_subset (Ix := Unit) (Name := ℕ) (U := UU) (Lvl := ℕ) (q := fullShare.right) (f := m ((c : Thread nD τ).loc main_arg0))
      (Finset.subset_univ (Finset.univ.biUnion fun r => ((srcM c r).view.set : Finset S8192x1024.Idx)))
    exact (hs.1.trans sep_elim_left).trans (Entails.of_eq hb)
  unfold rows0
  iintro ⟨Ha, Ho⟩
  ihave Ha2 := (pointsTo_share (PosShare.mem_left_op_right fullShare)).1 $$ Ha
  icases Ha2 with ⟨HaL, HaR⟩
  ihave HaR := hA $$ HaR
  ihave Hp := (Entails.of_eq (out_start m c)) $$ Ho
  icases Hp with ⟨Hown, Hmid, Hfar⟩
  isplitl [Hown]; · iexact Hown
  isplitl [Hmid]; · iexact Hmid
  isplitl [Hfar]; · iexact Hfar
  isplitl [HaL]; · unfold argL aPts; iexact HaL
  iexact HaR

/-- What the body ends with is the gathered result, whole, and the argument, unchanged. -/
theorem rows_end (c : Dev nD) :
    (rows1 m c : sProp 𝕄) ⊢ iprop(((c : Thread nD τ).loc main_v1 ↦{fullShare} outF m c)
        ∗ ((c : Thread nD τ).loc main_arg0 ↦{fullShare.left} m ((c : Thread nD τ).loc main_arg0))) := by
  rw [out_end]
  unfold rows1
  iintro ⟨H1, H2, H3, H4⟩
  isplitr [H4]
  · isplitl [H1]; · iexact H1
    isplitl [H2]; · iexact H2
    iexact H3
  unfold argL aPts; iexact H4

/-! ## The launch credit -/

theorem bar_eq {a b : Dev nD} (h : barCell a = barCell b) : a = b := congrArg (fun g : GSem nD τ sig => g.1.1) h
theorem dma_eq {a b : Dev nD} {q q' : DmaSem sig} (h : dmaCell a q = dmaCell b q') : a = b ∧ q = q' := by
  refine ⟨congrArg (fun g : GSem nD τ sig => g.1.1) h, ?_⟩
  have h2 : SemLoc.dma q = SemLoc.dma q' := congrArg Prod.snd h
  injection h2
theorem dma_ne_bar (a b : Dev nD) (q : DmaSem sig) : dmaCell a q ≠ barCell b := fun h => by
  have h2 : SemLoc.dma q = SemLoc.reg barS := congrArg Prod.snd h
  cases h2

theorem xn_eq_iff {a b : Dev nD} : Iff (xn a = b) (a = xn b) := ⟨fun h => by rw [← h, xn_xn], fun h => by rw [h, xn_xn]⟩
theorem yn_eq_iff {a b : Dev nD} : Iff (yn a = b) (a = yn b) := ⟨fun h => by rw [← h, yn_yn], fun h => by rw [h, yn_yn]⟩

/-- The credit of sixteen arrivals on device `e`, -/
def arrivals (f : Fin 16 → DmaSem sig) (e : Dev nD) : CellTallies nD τ sig Unit := ∑ r ∈ fromK 0, tallyAt (dmaCell e (f r)) () N

/-- on one of those cells, -/
theorem arrivals_at (f : Fin 16 → DmaSem sig) (hf : Function.Injective f) (e c : Dev nD) (r : Fin 16) :
    arrivals f e (dmaCell c (f r)) () = if e = c then N else 0 := by
  unfold arrivals
  rw [Finset.sum_apply, Finsupp.finset_sum_apply, fromK_zero, Finset.sum_eq_single r
    (fun r' _ hne => by rw [tallyAt_apply, if_neg fun h => hne (hf (dma_eq h.1).2).symm]) (fun h => absurd (Finset.mem_univ _) h), tallyAt_apply]
  by_cases h : e = c
  · subst h; rw [if_pos ⟨rfl, rfl⟩, if_pos rfl]
  · rw [if_neg fun h' => h (dma_eq h'.1).1.symm, if_neg h]
/-- and on any other. -/
theorem arrivals_other (f : Fin 16 → DmaSem sig) (e : Dev nD) (g : GSem nD τ sig) (h : ∀ r, dmaCell e (f r) ≠ g) :
    arrivals f e g () = 0 := by
  unfold arrivals
  rw [Finset.sum_apply, Finsupp.finset_sum_apply]
  exact Finset.sum_eq_zero fun r _ => by rw [tallyAt_apply, if_neg fun h' => h r h'.1.symm]

theorem unit_at (e c : Dev nD) : (tallyAt (barCell e) () 1 : CellTallies nD τ sig Unit) (barCell c) () = if e = c then 1 else 0 := by
  rw [tallyAt_apply]
  by_cases h : e = c
  · subst h; rw [if_pos ⟨rfl, rfl⟩, if_pos rfl]
  · rw [if_neg fun h' => h (bar_eq h'.1).symm, if_neg h]
theorem unit_other (e c : Dev nD) (q : DmaSem sig) : (tallyAt (barCell e) () 1 : CellTallies nD τ sig Unit) (dmaCell c q) () = 0 := by
  rw [tallyAt_apply, if_neg fun h => dma_ne_bar c e q h.1]

theorem xrS_inj : Function.Injective xrS := fun r r' h => by
  have h := congrArg chunkOf h; rwa [chunk_xr, chunk_xr] at h
theorem yrS_inj : Function.Injective yrS := fun r r' h => by
  have h := congrArg chunkOf h; rwa [chunk_yr, chunk_yr] at h
theorem xr_ne_yr (r r' : Fin 16) : xrS r ≠ yrS r' := fun h => by
  have h := congrArg groupOf h; rw [group_xr, group_yr] at h; exact absurd h (by decide)

/-- What device `d` owes at a cell, summand by summand. -/
theorem O₀_at (d : Dev nD) (g : GSem nD τ sig) : O₀ d g () = arrivals yrS (yn d) g () + arrivals xrS (xn d) g ()
    + (tallyAt (barCell (yn d)) () 1 : CellTallies nD τ sig Unit) g () + (tallyAt (barCell (xn d)) () 1 : CellTallies nD τ sig Unit) g () := rfl

theorem owed_bar (d c : Dev nD) : O₀ d (barCell c) () = (if d = yn c then 1 else 0) + (if d = xn c then 1 else 0) := by
  rw [O₀_at, arrivals_other _ _ _ fun r => dma_ne_bar _ _ _, arrivals_other _ _ _ fun r => dma_ne_bar _ _ _, unit_at, unit_at]
  simp only [xn_eq_iff, yn_eq_iff, Nat.zero_add]
theorem owed_xr (d c : Dev nD) (r : Fin 16) : O₀ d (dmaCell c (xrS r)) () = if d = xn c then N else 0 := by
  rw [O₀_at, arrivals_other yrS _ _ fun r' h => xr_ne_yr r r' (dma_eq h).2.symm, arrivals_at _ xrS_inj, unit_other, unit_other]
  simp only [xn_eq_iff, Nat.zero_add, Nat.add_zero]
theorem owed_yr (d c : Dev nD) (r : Fin 16) : O₀ d (dmaCell c (yrS r)) () = if d = yn c then N else 0 := by
  rw [O₀_at, arrivals_other xrS _ _ fun r' h => xr_ne_yr r' r (dma_eq h).2, arrivals_at _ yrS_inj, unit_other, unit_other]
  simp only [yn_eq_iff, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1, if_pos (Finset.mem_univ _), if_pos (Finset.mem_univ _)]
theorem launch_dma (c e : Dev nD) (q : DmaSem sig) (h : ∀ d, O₀ d (dmaCell c q) () = if d = e then N else 0) :
    tallyOn (dmaCell c q) (launchCredit (Pipeline.owing O₀) 0 (dmaCell c q)) = (tallyAt (dmaCell c q) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => N,
    if_pos (Finset.mem_univ _)]

/-- The launch's credit holds what the device is owed. -/
theorem creds_intro (c : Dev nD) : (Pipeline.launchCred O₀ c : sProp 𝕄) ⊢ creds c := by
  classical
  have hall : (Pipeline.launchCred O₀ c : sProp 𝕄)
      ⊢ bigSep Finset.univ fun k : Cix => cred (tallyOn (kcell (c, k)) (launchCredit (Pipeline.owing O₀) 0 (kcell (c, k)))) := by
    unfold Pipeline.launchCred
    have hs (Φ : SemLoc sig → sProp 𝕄) : bigSep Finset.univ Φ ⊢ bigSep (Finset.univ.map ⟨csem, csem_inj⟩) Φ :=
      bigSep_subset (Finset.subset_univ _)
    exact (hs _).trans (Entails.of_eq (bigSep_map _))
  refine hall.trans ?_
  rw [bigSep_all c fun g => cred (tallyOn g (launchCredit (Pipeline.owing O₀) 0 g)), launch_bar]
  unfold perCell creds
  simp only [launch_dma c (xn c) _ fun d => owed_xr d c _, launch_dma c (yn c) _ fun d => owed_yr d c _]
  iintro ⟨HB, -, -, HX, -, HY⟩
  isplitl [HB]; · iexact HB
  isplitl [HX]; · iexact HX
  iexact HY

/-! ## The tokens -/

/-- The tokens of the duties of device `c`'s own cells. -/
def ownToks (c : Dev nD) : sProp 𝕄 :=
  iprop(dutyTok ER (barCell c) 0 false ∗ dutyTok ER (barCell c) 0 true ∗ perCell fun q => dutyTok ER (dmaCell c q) 0 false)

def xE : Dev nD ≃ Dev nD := ⟨xn, xn, xn_xn, xn_xn⟩
def yE : Dev nD ≃ Dev nD := ⟨yn, yn, yn_yn, yn_yn⟩

/-- Every device's tokens, dealt to the devices that pay the duties. -/
theorem toks_around : (bigSep Finset.univ fun c : Dev nD => (ownToks c : sProp 𝕄)) ⊢ bigSep Finset.univ fun c : Dev nD => toks c := by
  unfold ownToks toks perCell
  simp only [bigSep_sep']
  rw [bigSep_univ_equiv xE (fun c : Dev nD => (dutyTok ER (barCell c) 0 false : sProp 𝕄)),
    bigSep_univ_equiv yE (fun c : Dev nD => (dutyTok ER (barCell c) 0 true : sProp 𝕄)),
    bigSep_univ_equiv xE (fun c : Dev nD => (chunks fun r => dutyTok ER (dmaCell c (xrS r)) 0 false : sProp 𝕄)),
    bigSep_univ_equiv yE (fun c : Dev nD => (chunks fun r => dutyTok ER (dmaCell c (yrS r)) 0 false : sProp 𝕄))]
  exact .rfl

end Cert.KernelIdeal.Gather

end
-- ==== Proof.KernelIdeal.Launch.lean ====
/-
# The run of @main

The launch's set-up: the cells' invariants allocated, the tokens dealt, the body proved on every device, and what the final
memory holds.
-/
module

public import proofs.«01_k».proof.Proof.KernelIdeal.Deal
public import proofs.«01_k».proof.Proof.Gen.KernelIdeal.Launch
public import Idealize.ShloMosaic.Lib.Pipeline.Kit
public import Idealize.ShloMosaic.Lib.Pipeline.CollectiveSegs
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What a device's ghost state holds, at some names of the invariants. -/
def ghost (c : Dev nD) : sProp 𝕄 := iprop(∃ K, records m K ∗ toks c ∗ places c)

/-- What the body starts from, -/
def before (c : Dev nD) : sProp 𝕄 := iprop(ghost m c ∗ creds c ∗ levAts L lv ∗ rows0 m c)
/-- and what it ends with. -/
def after (c : Dev nD) : sProp 𝕄 := iprop(zeros c ∗ rows1 m c)

/-- The proof data: the kernel has no window. -/
def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => O₀ c
    | ⟨_ + 1, _⟩ => 0

theorem bigSep_W (Φ : Fin cfg0.W → sProp 𝕄) : bigSep Finset.univ Φ = BI.emp := by
  rw [show (Finset.univ : Finset (Fin cfg0.W)) = ∅ from rfl, bigSep_empty]

set_option maxRecDepth 65536 in
/-- The body on device `c`. -/
theorem body_obligation (c : Dev nD) : BodyObligation (dats (F := F) m 0 c) (defs₀ (F := F)) 𝒱₀ () Set.univ := fun t => by
  rw [fin_N0 t]
  rw [bigSep_W, bigSep_W]
  show iprop(before m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2 cc0_scratch3 cc0_scratch4)
    (fun _ => iprop(after m c ∗ (dats m 0 c).owesAt () t0_0.succ ∗ emp))
  rw [body_eq_loops]
  unfold before ghost Dat.owesAt Pipeline.owesWithin
  rw [show (dats m 0 c).owed t0_0.castSucc = O₀ c from rfl, show (dats m 0 c).owed t0_0.succ = 0 from rfl]
  iintro ⟨⟨⟨%K, HI, Ht, Hp⟩, Hc, Hlev, Hr⟩, ⟨%W, -, HO⟩, -⟩
  ihave Hw := (dev_body m K c) $$ [HI Ht Hp Hc Hlev Hr HO]
  · isplitl [Hr]; · iexact Hr
    isplitl [Ht]; · iexact Ht
    isplitl [Hc]; · iexact Hc
    isplitl [Hp]; · iexact Hp
    unfold carry
    isplitl [HI]; · iexact HI
    isplitl [Hlev]; · iexact Hlev
    iexists W; iexact HO
  iapply (wp_wand frame _ Set.univ) $$ Hw
  unfold carry after
  iintro %_ ⟨Hz, Hr, -, -, %W', HO⟩
  isplitl [Hz Hr]
  · isplitl [Hz]; · iexact Hz
    iexact Hr
  isplitl [HO]
  · iexists W'
    isplitr; · ipureintro; exact fun _ _ => Or.inl trivial
    iexact HO
  iempintro

/-! ## The global step -/

theorem ownSemFacts : Pipeline.OwnSemFacts cfg0.spec osem where
  isScoped k := (show ∀ q : DmaSem sig, (SemLoc.dma q : SemLoc sig).isScoped .tc = true by decide) (qS k)
  inj := osem_inj
  disj _ w _ := w.elim0

def gatherCells : Finset (GSem nD τ sig) := Finset.univ.map ⟨kcell, kcell_inj⟩

/-- The duty of a cell: two at a barrier, one elsewhere. -/
def tokOf (cj : Dev nD × (Bool ⊕ Qix)) : GSem nD τ sig × ℕ × Bool := match cj.2 with
  | .inl b => (barCell cj.1, 0, b)
  | .inr q => (dmaCell cj.1 (qS q), 0, false)
theorem tokOf_inj : Function.Injective tokOf := by
  rintro ⟨c, b | q⟩ ⟨c', b' | q'⟩ h
  · have h1 : c = c' := bar_eq (congrArg Prod.fst h)
    have h2 : b = b' := congrArg (fun x : GSem nD τ sig × ℕ × Bool => x.2.2) h
    rw [h1, h2]
  · exact absurd (congrArg Prod.fst h).symm (dma_ne_bar c' c (qS q'))
  · exact absurd (congrArg Prod.fst h) (dma_ne_bar c c' (qS q))
  · obtain ⟨h1, h2⟩ := dma_eq (congrArg Prod.fst h)
    exact Prod.ext h1 (congrArg Sum.inr (qS_inj h2))
def gatherToks : Finset (GSem nD τ sig × ℕ × Bool) := Finset.univ.map ⟨tokOf, tokOf_inj⟩

def u₀ : UU := (initOf (Pipeline.cells cfgs cellOf_inj) (Pipeline.launchToks cfgs cellOf_inj), initOf gatherCells gatherToks)

/-- What the launch deals device `c`. -/
def G (c : Dev nD) : sProp 𝕄 :=
  iprop((bigSep Finset.univ fun k : Cix => roundState ER (rd m) (kcell (c, k)) 0)
    ∗ (bigSep Finset.univ fun k : Cix => iprop(atPos ER (kcell (c, k)) 0 ∅ 0 ∗ reached ER (kcell (c, k)) 0)) ∗ ownToks c)

theorem fund_gather : BI.own (ER (initOf gatherCells gatherToks)) ⊢ (|==> bigSep Finset.univ (G m) : sProp 𝕄) := by
  have hX (Φ : GSem nD τ sig → sProp 𝕄) : bigSep gatherCells Φ = bigSep Finset.univ fun c : Dev nD => bigSep Finset.univ fun k : Cix => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => ownToks c := by
    unfold gatherToks; rw [bigSep_map, bigSep_univ_prod]
    refine bigSep_congr fun c _ => ?_
    unfold ownToks
    rw [bigSep_univ_sum, ← bigSep_cells fun q => dutyTok ER (dmaCell c q) 0 false, bigSep_univ_eq_bigSepL [false, true] (by decide) (by decide),
      bigSepL_cons_cons, bigSepL_singleton]
    exact equiv_iff.mp ⟨(Laws.sep_assoc (PROP := sProp 𝕄)).1, (Laws.sep_assoc (PROP := sProp 𝕄)).2⟩
  iintro HX
  imod (Rounds.fund ER (rd m) gatherCells gatherToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores, cell by cell; -/
theorem ownSems0_eq (c : Dev nD) : (Pipeline.ownSems0 (Ix := Unit) (Name := ℕ) (U := UU) (Lvl := ℕ) (Val := Elt F) (τ := τ) osem c : sProp 𝕄)
    = perCell fun q => semVal (dmaCell c q) 0 := by
  rw [← bigSep_cells]; rfl
/-- the barrier semaphore is the one the launch holds. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c) := by
  unfold G
  rw [ownSems0_eq, unscopedSems0_eq]
  iintro ⟨Hos, Hus, Hst, Hat, Htok⟩
  imod (show iprop((bigSep Finset.univ fun k : Cix => semVal (kcell (c, k)) 0) ∗ bigSep Finset.univ fun k : Cix => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hos Hus Hst] with Hinv
  · isplitr [Hst]
    · rw [bigSep_all c fun g => semVal g 0]
      isplitl [Hus] <;> iassumption
    iexact Hst
  imodintro
  isplitl [Hinv]; · iexact Hinv
  isplitl [Hat]; · iexact Hat
  iexact Htok

theorem ghost_intro (K : Dev nD × Cix → ℕ) (c : Dev nD) :
    iprop(records m K ∗ ((bigSep Finset.univ fun k : Cix => atPos ER (kcell (c, k)) 0 ∅ 0) ∗ toks c)) ⊢ ghost m c := by
  rw [bigSep_all c fun g => atPos ER g 0 ∅ 0]
  unfold ghost places
  iintro ⟨HI, Hp, Ht⟩
  iexists K
  isplitl [HI]; · iexact HI
  isplitl [Ht]; · iexact Ht
  iexact Hp

theorem bigSep_with_persistent {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (ghost m) := by
  classical
  rw [bigSep_sep', bigSep_sep', ← bigSep_univ_prod (fun ck : Dev nD × Cix => iprop(∃ κ : ℕ, cellInv ER (rd m) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Cix => (atPos ER (kcell (c, k)) 0 ∅ 0 : sProp 𝕄)) toks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(before m c ∗ emp) := by
  rw [Pipeline.unscopedRestP_none, unscopedRest0_eq]
  iintro ⟨Hb, Hlev, Hcr, -, HG⟩
  ihave Hc := (creds_intro (F := F) c) $$ Hcr
  ihave Hr := (rows_start m c) $$ Hb
  imodintro
  unfold before
  isplitl
  · isplitl [HG]; · iexact HG
    isplitl [Hc]; · iexact Hc
    isplitl [Hlev]; · iexact Hlev
    iexact Hr
  · iempintro

theorem phi0_intro (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  iintro ⟨Hs, -, -⟩
  iexact Hs

/-- What is read of the final memory. -/
def ends (c : Dev nD) : sProp 𝕄 := iprop(unscopedSems0 c ∗ rows1 m c)

theorem phi1_exit (c : Dev nD) :
    (dats m 0 c).Φ (Fin.last cfg0.N) ⊢ iprop(ends m c ∗ Pipeline.ownSems0 osem c ∗ Pipeline.scopedRest cfg0.spec c) := by
  unfold ends
  rw [show (dats m 0 c).Φ (Fin.last cfg0.N) = after m c from rfl, scopedRest0_eq, ownSems0_eq, unscopedSems0_eq]
  unfold after zeros
  iintro ⟨⟨HzB, Hz⟩, Hr⟩
  isplitl [HzB Hr]
  · isplitl [HzB]; · iexact HzB
    iexact Hr
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w s t => w.elim0

theorem share_eq (c : Dev nD) (w : Fin cfg0.W) : (dats (F := F) m 0 c).share w = fullShare := w.elim0

theorem read_one (ℓ : Loc nD τ sig) (q : PosShare TreeShare) (f : Buf (Elt F) ℓ) (s' : Phys nD τ sig (Elt F)) :
    iprop((ℓ ↦{q} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s' q
  rw [bigSep_singleton] at h
  exact h.trans (sep_mono_left (Laws.pure_mono fun hp => hp () (Finset.mem_singleton_self _)))

/-- What a device's memory holds at the end: the gathered result, the argument unchanged, the barrier at zero. -/
def endsWith (c : Dev nD) (s : MemSt nD τ sig (Elt F)) : Prop :=
  (s.mem ((c.tc : Thread nD τ).loc main_v1) = outF m c ∧ s.mem ((c.tc : Thread nD τ).loc main_arg0) = m ((c.tc : Thread nD τ).loc main_arg0))
    ∧ ∀ sm : SemLoc sig, sm.isScoped .tc = false → s.sem ((c.tc : Thread nD τ), sm) = 0

theorem ends_read (c : Dev nD) (s' : Phys nD τ sig (Elt F)) :
    iprop(ends m c ∗ emp ∗ SI s') ⊢ |={Set.univ}=> iprop(⌜endsWith m c s'.mem⌝ ∗ SI s') := by
  unfold ends
  iintro ⟨⟨Hu, Hr⟩, -, HSI⟩
  ihave Hr := (rows_end m c) $$ Hr
  icases Hr with ⟨Ho, Ha⟩
  ihave H := (read_one ((c : Thread nD τ).loc main_v1) fullShare (outF m c) s') $$ [Ho HSI]
  · isplitl [Ho] <;> iassumption
  icases H with ⟨%h1, HSI⟩
  ihave H := (read_one ((c : Thread nD τ).loc main_arg0) fullShare.left (m ((c : Thread nD τ).loc main_arg0)) s') $$ [Ha HSI]
  · isplitl [Ha] <;> iassumption
  icases H with ⟨%h2, HSI⟩
  imod (Pipeline.unscopedSems0_read (X := (unscopedSems0 c : sProp 𝕄)) (c := c) fupd_intro s') $$ [Hu HSI] with ⟨%h3, HSI⟩
  · isplitl [Hu] <;> iassumption
  imodintro
  isplitr
  · ipureintro; exact ⟨⟨h1, h2⟩, h3⟩
  iexact HSI

set_option maxRecDepth 8000 in
/-- Every weakly fair execution of @main on the mesh ends, with the gathered rows in every device's result, every argument
    as it was, and every semaphore at zero. -/
theorem run_main : θ_run defs (onTc (τ := τ) (main (F := F))) ⟨m, fun _ => 0, ρ⟩ (fun r =>
    (∀ c : Dev nD, r.2.mem ((c.tc : Thread nD τ).loc main_v1) = outF m c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_gather m) $$ HX with HG
      imodintro
      isplitl [HP] <;> iassumption)
    (hglob := glob m)
    (hA := fun _ w => w.elim0) (hpf := fun _ k => k.elim0)
    (X := before m) (Y := ends m) (Z := fun _ => iprop(emp))
    (hX := start_intro m ρ) (hin := phi0_intro m) (hout := phi1_exit m)
    (QY := endsWith m) (hY := ends_read m)
    (hQ := fun _ h hs => ⟨fun c => (h c).2.2.1, sem_eq_zero hs fun c => (h c).2.2.2⟩)

end Cert.KernelIdeal.Gather

end
-- ==== Proof.Reference.lean ====
/-
# The run of the reference

The reference returns its argument: no operation runs, and the memory is as it was.
-/
module

public import proofs.«01_k».proof.Proof.Gen.ReferenceIdeal
public import Idealize.ShloMosaic.Lib.StableHlo.Run

@[expose] public section

noncomputable section

namespace Cert.ReferenceIdeal.Whole

open Cert.ReferenceIdeal
open Idealize.ShloMosaic Idealize.ShloMosaic.StableHlo Idealize.SL.Sem

variable {F : FTy → Type} [FloatOps F]

/-- Every execution of the reference ends with its argument, which is its result, unchanged, and no semaphore counting. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => h c main_arg0, funext fun x => by
      rcases x with ⟨_, s | s⟩ <;> exact s.elim0⟩)
    (run_seq (by decide) (by decide) defs main (fun _ => []) (fun _ => rfl) (fun _ => trivial) m ρ)

end Cert.ReferenceIdeal.Whole

end
-- ==== Proof.Value.lean ====
/-
# What the gathered rows are of the whole array

When every device's argument is its block of one array of 16384 rows, cut in two along the mesh's first axis, the result
on every device is that array.
-/
module

public import proofs.«01_k».proof.Proof.KernelIdeal.Views
public import Idealize.ShloMosaic.Lib.Layout

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]

/-- The device an element comes from stands in the mesh row that holds it. -/
theorem holder_div (c : Dev nD) (i : S16384x1024.Idx) : (holder c i).val / 2 = (i 0).val / 8192 := by
  have hi : (i 0).val < 16384 := (i 0).isLt
  have h1 := div_le c
  unfold holder
  split
  · omega
  · split
    · rw [xn_div]; omega
    · rw [xn_div, yn_div]; omega

/-- The block of a device, as a place along the rows: its mesh row; and the columns are not cut. -/
theorem meshRow : ∀ c : Dev nD, Layout.meshLin [2, 2] c.val [0] = c.val / 2 := by decide

/-- The element of the holder's block is the element of the whole array. -/
theorem idx_holder {k : Fin 2 → ℕ} (h : Layout.TilesN ⟨2, ![8192, 1024]⟩ ⟨2, ![16384, 1024]⟩ k) (b : (a : Fin 2) → Fin (k a))
    (c : Dev nD) (i : S16384x1024.Idx) (h0 : (b 0).val = (holder c i).val / 2) (h1 : (b 1).val = 0) :
    h.idx b (argIdx i) = i := by
  funext a
  refine Fin.ext ?_
  fin_cases a
  · show (b 0).val * 8192 + (i 0).val % 8192 = (i 0).val
    rw [h0, holder_div]; omega
  · show (b 1).val * 1024 + (i 1).val = (i 1).val
    rw [h1]; omega

/-- From arguments that are the blocks of the array `v`, the result on every device is `v`. -/
theorem outF_blocks (m : (ℓ : Loc nD τ sig) → Buf (Elt F) ℓ) (v : S16384x1024.Idx → Elt F .bf16)
    (hm : ∀ c : Dev nD, m ((c : Thread nD τ).loc main_arg0)
      = Layout.blockN ⟨2, ![8192, 1024]⟩ ⟨2, ![16384, 1024]⟩ (Layout.meshBlock [2, 2] ![[0], []] c) v) (c : Dev nD) :
    outF m c = v := by
  funext i
  unfold outF
  rw [hm]
  exact congrArg v (idx_holder _ _ c i (meshRow (holder c i)) rfl)

end Cert.KernelIdeal.Gather

end
-- ==== Proof.lean ====
/-
# The certificate

Both programs run and leave the argument and the semaphores as they were, whatever the float values are; with the argument
dealt in blocks of one array, the result on every device is that array, which is what the reference returns.
-/
module

public import proofs.«01_k».proof.Defs
public import proofs.«01_k».proof.Proof.Kernel.Launch
public import proofs.«01_k».proof.Proof.KernelIdeal.Launch
public import proofs.«01_k».proof.Proof.Reference
public import proofs.«01_k».proof.Proof.Value

@[expose] public section

noncomputable section

namespace Cert.Proof

open Idealize.ShloMosaic Idealize.SL.Sem

/-- The kernel runs to the end; its arguments end as they were and every semaphore at zero. -/
theorem frame_kernel : Cert.quiescent_Kernel := fun m g _ =>
  (θ_run Cert.Kernel.defs _ _).mono (fun _ h => ⟨fun c => (h.1 c).2, h.2⟩) (Cert.Kernel.Gather.run_main m g)

/-- The same of the kernel on ideal values. -/
theorem frame_kernel_ideal : Cert.quiescent_KernelIdeal := fun m g _ =>
  (θ_run Cert.KernelIdeal.defs _ _).mono (fun _ h => ⟨fun c => (h.1 c).2, h.2⟩) (Cert.KernelIdeal.Gather.run_main m g)

/-- The same of the reference. -/
theorem frame_reference : Cert.quiescent_ReferenceIdeal := fun m g _ => Cert.ReferenceIdeal.Whole.run_main m g

/-- The result on every device is the whole array, which the reference returns. -/
theorem gathers : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Gather.outF_blocks m _ hm c), (h.1 c).2⟩) (Cert.KernelIdeal.Gather.run_main m g),
    (θ_run Cert.ReferenceIdeal.defs _ _).mono (fun _ h => ⟨h.1 0, h.1 0⟩) (Cert.ReferenceIdeal.Whole.run_main m' g')⟩

/-- Everything the certificate claims. -/
theorem claim : Cert.Claim := ⟨Cert.Kernel.Gen.facts, Cert.KernelIdeal.Gen.facts, Cert.ReferenceIdeal.Gen.facts,
  frame_kernel, frame_kernel_ideal, frame_reference, trivial, gathers⟩

end Cert.Proof

end
